-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_kept_in_order [hPre_kept_in_order : Cert.Pre_kept_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_kept_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_kept_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_kept_in_order [hPre_kept_in_order : Cert.Pre_kept_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kept_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_kept_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_kept_in_order [hKernelIdeal : Cert.KernelIdeal.Facts] [hPre_kept_in_order : Cert.Pre_kept_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_kept_in_order [hReferenceIdeal : Cert.ReferenceIdeal.Facts] [hPre_kept_in_order : Cert.Pre_kept_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kept_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S40x2x512 Cert.KernelIdeal.S40x1x512
  ∧ IdealRules.bf16_pair.Statement Cert.KernelIdeal.S40x512 Cert.KernelIdeal.S20x512
  ∧ IdealRules.bf16_pair.Statement Cert.KernelIdeal.S20x2x512 Cert.KernelIdeal.S20x1x512
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal_pre_kept_in_order [hKernelIdeal : Cert.KernelIdeal.Facts] [hReferenceIdeal : Cert.ReferenceIdeal.Facts] [hPre_kept_in_order : Cert.Pre_kept_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kept_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_kept_in_order : Cert.Pre_kept_in_order.Facts),
    quiescent_Kernel (hKernel := hKernel)
    ∧ quiescent_KernelIdeal (hKernelIdeal := hKernelIdeal)
    ∧ quiescent_KernelIdeal_pre_kept_in_order (hKernelIdeal := hKernelIdeal) (hPre_kept_in_order := hPre_kept_in_order)
    ∧ quiescent_ReferenceIdeal (hReferenceIdeal := hReferenceIdeal)
    ∧ quiescent_ReferenceIdeal_pre_kept_in_order (hReferenceIdeal := hReferenceIdeal) (hPre_kept_in_order := hPre_kept_in_order)
    ∧ preserves_Kernel_KernelIdeal
    ∧ algebraic_KernelIdeal_ReferenceIdeal_pre_kept_in_order (hKernelIdeal := hKernelIdeal) (hReferenceIdeal := hReferenceIdeal) (hPre_kept_in_order := hPre_kept_in_order)
-- ==== Pre_kept_in_order.lean ====
abbrev S48x1x5120 : Shape := ⟨3, ![48, 1, 5120]⟩
abbrev S1280x14336 : Shape := ⟨2, ![1280, 14336]⟩
abbrev S640x14336 : Shape := ⟨2, ![640, 14336]⟩
abbrev S40x14336 : Shape := ⟨2, ![40, 14336]⟩
abbrev S_ : Shape := ⟨0, ![]⟩

class Facts : Prop where
  natLt_8_32 : 8 < 32
  bcast_S_S640x14336 : S_.BroadcastsInDim S640x14336 (![] : Fin 0 → Fin S640x14336.rank)

variable [Facts]

def fn {F : FTy → Type} [FloatOps F] (main_arg0 : FVec F S48x1x5120 .bf16) (main_arg1 : IVec S1280x14336 8) (main_arg2 : IVec S640x14336 8) (main_arg3 : FVec F S40x14336 .bf16) (main_arg4 : FVec F S40x14336 .bf16) : IVec S640x14336 1 × IVec S640x14336 1 :=
  let main_v0 : IVec S640x14336 32 := (extui 32 · natLt_8_32) main_arg2
  let main_c : IVec S_ 32 := constantI S_ 32 3#32
  let main_v1 : IVec S640x14336 32 := broadcastInDim S640x14336 ![] bcast_S_S640x14336 main_c
  let main_v2 : IVec S640x14336 32 := andi main_v0 main_v1
  let main_c_0 : IVec S_ 32 := constantI S_ 32 2#32
  let main_v3 : IVec S640x14336 32 := broadcastInDim S640x14336 ![] bcast_S_S640x14336 main_c_0
  let main_v4 : IVec S640x14336 32 := Host.shrsi main_v0 main_v3
  let main_c_1 : IVec S_ 32 := constantI S_ 32 3#32
  let main_v5 : IVec S640x14336 32 := broadcastInDim S640x14336 ![] bcast_S_S640x14336 main_c_1
  let main_v6 : IVec S640x14336 32 := andi main_v4 main_v5
  let main_v7 : IVec S640x14336 1 := cmpi .slt main_v2 main_v6
  let main_c_2 : IVec S_ 32 := constantI S_ 32 4#32
  let main_v8 : IVec S640x14336 32 := broadcastInDim S640x14336 ![] bcast_S_S640x14336 main_c_2
  let main_v9 : IVec S640x14336 32 := Host.shrsi main_v0 main_v8
  let main_c_3 : IVec S_ 32 := constantI S_ 32 3#32
  let main_v10 : IVec S640x14336 32 := broadcastInDim S640x14336 ![] bcast_S_S640x14336 main_c_3
  let main_v11 : IVec S640x14336 32 := andi main_v9 main_v10
  let main_c_4 : IVec S_ 32 := constantI S_ 32 6#32
  let main_v12 : IVec S640x14336 32 := broadcastInDim S640x14336 ![] bcast_S_S640x14336 main_c_4
  let main_v13 : IVec S640x14336 32 := Host.shrsi main_v0 main_v12
  let main_c_5 : IVec S_ 32 := constantI S_ 32 3#32
  let main_v14 : IVec S640x14336 32 := broadcastInDim S640x14336 ![] bcast_S_S640x14336 main_c_5
  let main_v15 : IVec S640x14336 32 := andi main_v13 main_v14
  let main_v16 : IVec S640x14336 1 := cmpi .slt main_v11 main_v15
  (main_v7, main_v16)
-- ==== Kernel.lean ====
abbrev S48x1x5120 : Shape := ⟨3, ![48, 1, 5120]⟩
abbrev S1280x14336 : Shape := ⟨2, ![1280, 14336]⟩
abbrev S640x14336 : Shape := ⟨2, ![640, 14336]⟩
abbrev S40x14336 : Shape := ⟨2, ![40, 14336]⟩
abbrev S48x5120 : Shape := ⟨2, ![48, 5120]⟩
abbrev S48x14336 : Shape := ⟨2, ![48, 14336]⟩
abbrev S1280x512 : Shape := ⟨2, ![1280, 512]⟩
abbrev S640x512 : Shape := ⟨2, ![640, 512]⟩
abbrev S40x512 : Shape := ⟨2, ![40, 512]⟩
abbrev S48x512 : Shape := ⟨2, ![48, 512]⟩
abbrev S20x48x256 : Shape := ⟨3, ![20, 48, 256]⟩
abbrev S256x256 : Shape := ⟨2, ![256, 256]⟩
abbrev S48x256 : Shape := ⟨2, ![48, 256]⟩
abbrev S1x48x256 : Shape := ⟨3, ![1, 48, 256]⟩
abbrev S20x512 : Shape := ⟨2, ![20, 512]⟩
abbrev S64x512 : Shape := ⟨2, ![64, 512]⟩
abbrev S16x512 : Shape := ⟨2, ![16, 512]⟩
abbrev S32x512 : Shape := ⟨2, ![32, 512]⟩
abbrev S8x512 : Shape := ⟨2, ![8, 512]⟩
abbrev S32x1x512 : Shape := ⟨3, ![32, 1, 512]⟩
abbrev S32x2x512 : Shape := ⟨3, ![32, 2, 512]⟩
abbrev S1x512 : Shape := ⟨2, ![1, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S48x1x5120, .bf16⟩
  | .hbm, ⟨1, _⟩ => ⟨S1280x14336, .i8⟩
  | .hbm, ⟨2, _⟩ => ⟨S640x14336, .i8⟩
  | .hbm, ⟨3, _⟩ => ⟨S40x14336, .bf16⟩
  | .hbm, ⟨4, _⟩ => ⟨S40x14336, .bf16⟩
  | .hbm, ⟨5, _⟩ => ⟨S48x5120, .bf16⟩
  | .hbm, ⟨6, _⟩ => ⟨S48x14336, .bf16⟩
  | .local _ .vmem, ⟨0, _⟩ => ⟨S48x5120, .bf16⟩
  | .local _ .vmem, ⟨1, _⟩ => ⟨S1280x512, .i8⟩
  | .local _ .vmem, ⟨2, _⟩ => ⟨S1280x512, .i8⟩
  | .local _ .vmem, ⟨3, _⟩ => ⟨S640x512, .i8⟩
  | .local _ .vmem, ⟨4, _⟩ => ⟨S640x512, .i8⟩
  | .local _ .vmem, ⟨5, _⟩ => ⟨S40x512, .bf16⟩
  | .local _ .vmem, ⟨6, _⟩ => ⟨S40x512, .bf16⟩
  | .local _ .vmem, ⟨7, _⟩ => ⟨S40x512, .bf16⟩
  | .local _ .vmem, ⟨8, _⟩ => ⟨S40x512, .bf16⟩
  | .local _ .vmem, ⟨9, _⟩ => ⟨S48x512, .bf16⟩
  | .local _ .vmem, ⟨10, _⟩ => ⟨S48x512, .bf16⟩
  | .local _ .vmem, ⟨11, _⟩ => ⟨S20x48x256, .bf16⟩
  | .local _ .vmem, ⟨12, _⟩ => ⟨S40x512, .i32⟩
  | .local _ .vmem, ⟨13, _⟩ => ⟨S40x512, .i32⟩
  | _, _ => ⟨S48x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S40x2x512 : Shape := ⟨3, ![40, 2, 512]⟩
abbrev S40x1x512 : Shape := ⟨3, ![40, 1, 512]⟩
abbrev S20x2x512 : Shape := ⟨3, ![20, 2, 512]⟩
abbrev S20x1x512 : Shape := ⟨3, ![20, 1, 512]⟩
abbrev S1x2x512 : Shape := ⟨3, ![1, 2, 512]⟩
abbrev S1x1x512 : Shape := ⟨3, ![1, 1, 512]⟩
  | .local _ .vmem, ⟨12, _⟩ => ⟨S40x2x512, .bf16⟩
  | .local _ .vmem, ⟨13, _⟩ => ⟨S40x2x512, .bf16⟩
variable {F : FTy → Type} [FloatOps F]
-- ==== ReferenceIdeal.lean ====
abbrev S48x1x5120 : Shape := ⟨3, ![48, 1, 5120]⟩
abbrev S1280x14336 : Shape := ⟨2, ![1280, 14336]⟩
abbrev S640x14336 : Shape := ⟨2, ![640, 14336]⟩
abbrev S40x14336 : Shape := ⟨2, ![40, 14336]⟩
abbrev S2 : Shape := ⟨1, ![2]⟩
abbrev S40x16x2x14336 : Shape := ⟨4, ![40, 16, 2, 14336]⟩
abbrev S40x16x1x14336 : Shape := ⟨4, ![40, 16, 1, 14336]⟩
abbrev S_ : Shape := ⟨0, ![]⟩
abbrev S1x1x2x1 : Shape := ⟨4, ![1, 1, 2, 1]⟩
abbrev S40x1x1x14336 : Shape := ⟨4, ![40, 1, 1, 14336]⟩
abbrev S4 : Shape := ⟨1, ![4]⟩
abbrev S1x1x1x4x1 : Shape := ⟨5, ![1, 1, 1, 4, 1]⟩
abbrev S40x16x2x1x14336 : Shape := ⟨5, ![40, 16, 2, 1, 14336]⟩
abbrev S40x16x2x4x14336 : Shape := ⟨5, ![40, 16, 2, 4, 14336]⟩
abbrev S5120x14336 : Shape := ⟨2, ![5120, 14336]⟩
abbrev S48x5120 : Shape := ⟨2, ![48, 5120]⟩
abbrev S48x14336 : Shape := ⟨2, ![48, 14336]⟩

abbrev nBuf : Space → Nat
  | .hbm => 68
  | .vmem => 0
  | .smem => 0
  | _ => 0

abbrev bufTy : (tb : Table) → Fin (tcTables nBuf tb) → BufTy
  | .hbm, ⟨0, _⟩ => ⟨S48x1x5120, .bf16⟩
  | .hbm, ⟨1, _⟩ => ⟨S1280x14336, .i8⟩
  | .hbm, ⟨2, _⟩ => ⟨S640x14336, .i8⟩
  | .hbm, ⟨3, _⟩ => ⟨S40x14336, .bf16⟩
  | .hbm, ⟨4, _⟩ => ⟨S40x14336, .bf16⟩
  | .hbm, ⟨5, _⟩ => ⟨S2, .i32⟩
  | .hbm, ⟨6, _⟩ => ⟨S2, .i32⟩
  | .hbm, ⟨7, _⟩ => ⟨S1280x14336, .i32⟩
  | .hbm, ⟨8, _⟩ => ⟨S40x16x2x14336, .i32⟩
  | .hbm, ⟨9, _⟩ => ⟨S640x14336, .i32⟩
  | .hbm, ⟨10, _⟩ => ⟨S40x16x1x14336, .i32⟩
  | .hbm, ⟨11, _⟩ => ⟨S_, .i32⟩
  | .hbm, ⟨12, _⟩ => ⟨S40x16x2x14336, .i32⟩
  | .hbm, ⟨13, _⟩ => ⟨S40x16x2x14336, .i32⟩
  | .hbm, ⟨14, _⟩ => ⟨S_, .i32⟩
  | .hbm, ⟨15, _⟩ => ⟨S40x16x2x14336, .i32⟩
  | .hbm, ⟨16, _⟩ => ⟨S40x16x2x14336, .i32⟩
  | .hbm, ⟨17, _⟩ => ⟨S_, .i32⟩
  | .hbm, ⟨18, _⟩ => ⟨S40x16x2x14336, .i32⟩
  | .hbm, ⟨19, _⟩ => ⟨S40x16x2x14336, .i32⟩
  | .hbm, ⟨20, _⟩ => ⟨S1x1x2x1, .i32⟩
  | .hbm, ⟨21, _⟩ => ⟨S1x1x2x1, .i32⟩
  | .hbm, ⟨22, _⟩ => ⟨S40x16x2x14336, .i32⟩
  | .hbm, ⟨23, _⟩ => ⟨S40x16x2x14336, .i32⟩
  | .hbm, ⟨24, _⟩ => ⟨S40x16x2x14336, .i32⟩
  | .hbm, ⟨25, _⟩ => ⟨S_, .i32⟩
  | .hbm, ⟨26, _⟩ => ⟨S40x16x2x14336, .i32⟩
  | .hbm, ⟨27, _⟩ => ⟨S40x16x2x14336, .i32⟩
  | .hbm, ⟨28, _⟩ => ⟨S40x16x2x14336, .i32⟩
  | .hbm, ⟨29, _⟩ => ⟨S40x16x2x14336, .i32⟩
  | .hbm, ⟨30, _⟩ => ⟨S40x16x2x14336, .i32⟩
  | .hbm, ⟨31, _⟩ => ⟨S_, .i32⟩
  | .hbm, ⟨32, _⟩ => ⟨S40x16x2x14336, .i32⟩
  | .hbm, ⟨33, _⟩ => ⟨S40x16x2x14336, .i32⟩
  | .hbm, ⟨34, _⟩ => ⟨S40x1x1x14336, .bf16⟩
  | .hbm, ⟨35, _⟩ => ⟨S40x1x1x14336, .bf16⟩
  | .hbm, ⟨36, _⟩ => ⟨S40x16x2x14336, .bf16⟩
  | .hbm, ⟨37, _⟩ => ⟨S40x16x2x14336, .bf16⟩
  | .hbm, ⟨38, _⟩ => ⟨S40x16x2x14336, .bf16⟩
  | .hbm, ⟨39, _⟩ => ⟨S40x16x2x14336, .bf16⟩
  | .hbm, ⟨40, _⟩ => ⟨S40x16x2x14336, .bf16⟩
  | .hbm, ⟨41, _⟩ => ⟨S40x16x2x14336, .bf16⟩
  | .hbm, ⟨42, _⟩ => ⟨S40x16x2x14336, .bf16⟩
  | .hbm, ⟨43, _⟩ => ⟨S40x16x2x14336, .bf16⟩
  | .hbm, ⟨44, _⟩ => ⟨S40x16x2x14336, .bf16⟩
  | .hbm, ⟨45, _⟩ => ⟨S40x16x2x14336, .bf16⟩
  | .hbm, ⟨46, _⟩ => ⟨S4, .i32⟩
  | .hbm, ⟨47, _⟩ => ⟨S1x1x1x4x1, .i32⟩
  | .hbm, ⟨48, _⟩ => ⟨S40x16x2x1x14336, .i32⟩
  | .hbm, ⟨49, _⟩ => ⟨S40x16x2x4x14336, .i32⟩
  | .hbm, ⟨50, _⟩ => ⟨S40x16x2x4x14336, .i32⟩
  | .hbm, ⟨51, _⟩ => ⟨S40x16x2x4x14336, .i1⟩
  | .hbm, ⟨52, _⟩ => ⟨S40x16x2x1x14336, .bf16⟩
  | .hbm, ⟨53, _⟩ => ⟨S40x16x2x1x14336, .i32⟩
  | .hbm, ⟨54, _⟩ => ⟨S40x16x2x4x14336, .i32⟩
  | .hbm, ⟨55, _⟩ => ⟨S40x16x2x4x14336, .i32⟩
  | .hbm, ⟨56, _⟩ => ⟨S40x16x2x4x14336, .i1⟩
  | .hbm, ⟨57, _⟩ => ⟨S40x16x2x1x14336, .bf16⟩
  | .hbm, ⟨58, _⟩ => ⟨S_, .bf16⟩
  | .hbm, ⟨59, _⟩ => ⟨S40x16x2x4x14336, .bf16⟩
  | .hbm, ⟨60, _⟩ => ⟨S40x16x2x4x14336, .bf16⟩
  | .hbm, ⟨61, _⟩ => ⟨S40x16x2x4x14336, .bf16⟩
  | .hbm, ⟨62, _⟩ => ⟨S40x16x2x4x14336, .bf16⟩
  | .hbm, ⟨63, _⟩ => ⟨S40x16x2x4x14336, .bf16⟩
  | .hbm, ⟨64, _⟩ => ⟨S5120x14336, .bf16⟩
  | .hbm, ⟨65, _⟩ => ⟨S48x5120, .bf16⟩
  | .hbm, ⟨66, _⟩ => ⟨S48x14336, .f32⟩
  | .hbm, ⟨67, _⟩ => ⟨S48x14336, .bf16⟩
  | _, _ => ⟨S48x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst : Ref sig .tc := ⟨.hbm, 58, rfl⟩
abbrev main_call0_v0 : Ref sig .tc := ⟨.hbm, 59, rfl⟩
abbrev main_call0_v1 : Ref sig .tc := ⟨.hbm, 60, rfl⟩
abbrev main_v46 : Ref sig .tc := ⟨.hbm, 61, rfl⟩
abbrev main_call1_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

/-! The kernel's body as a short program: one decode of a tile of 64 quads, repeated twenty times. The printed body
    writes the twenty decodes out one after the other; here each of its pieces is named once, as a function of the tile
    number, and the block the body leaves is shown to be that short program. -/

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]

/-! ## The pieces of one decode -/

/-- The low four bits of every byte of the stored values. -/
def loCodes (v : Vec F S64x512 .i8) : FVec F S64x512 .bf16 :=
  sitofp .bf16 (bitcast S64x512 8 (andi (bitcast S16x512 32 v bitcasts_S64x512_w8_S16x512_w32)
    (broadcast S16x512 252645135#32)) bitcasts_S16x512_w32_S64x512_w8)

/-- The high four bits of every byte of the stored values. -/
def hiCodes (v : Vec F S64x512 .i8) : FVec F S64x512 .bf16 :=
  sitofp .bf16 (bitcast S64x512 8 (andi (shrui (bitcast S16x512 32 v bitcasts_S64x512_w8_S16x512_w32)
    (broadcast S16x512 4#32)) (broadcast S16x512 252645135#32)) bitcasts_S16x512_w32_S64x512_w8)

/-- The two four-bit fields of every byte of `w`, low field first, each on its own row. -/
def nibbles (w : IVec S8x512 32) : IVec S64x512 32 :=
  shapeCast S64x512 (concatenate S32x2x512 1
    [⟨S32x1x512, shapeCast S32x1x512 (extsi 32 (bitcast S32x512 8 (andi w (broadcast S8x512 252645135#32))
        bitcasts_S8x512_w32_S32x512_w8) natLt_8_32) shapeCasts_S32x512_S32x1x512⟩,
     ⟨S32x1x512, shapeCast S32x1x512 (extsi 32 (bitcast S32x512 8 (andi (shrui w (broadcast S8x512 4#32))
        (broadcast S8x512 252645135#32)) bitcasts_S8x512_w32_S32x512_w8) natLt_8_32) shapeCasts_S32x512_S32x1x512⟩]
    concatenates_S32x1x512_S32x1x512_S32x2x512_d1) shapeCasts_S32x2x512_S64x512

/-- The position field of every quad, as a number from -8 to 7. -/
def signedField (w : Vec F S32x512 .i8) : FVec F S64x512 .bf16 :=
  sitofp .bf16 (subi (xori (nibbles (bitcast S8x512 32 w bitcasts_S32x512_w8_S8x512_w32))
    (broadcast S64x512 8#32)) (broadcast S64x512 8#32))

/-- The field two bits further down, as a number from 0 to 15: its upper half is the first position. -/
def shiftedField (w : Vec F S32x512 .i8) : FVec F S64x512 .bf16 :=
  sitofp .bf16 (nibbles (shli (bitcast S8x512 32 w bitcasts_S32x512_w8_S8x512_w32) (broadcast S8x512 2#32)))

/-- One row of a pair-of-rows buffer, repeated on sixteen rows. -/
def spread (raw : Vec F S1x2x512 .bf16) : FVec F S16x512 .bf16 :=
  have lo : FVec F S1x512 .bf16 :=
    shapeCast S1x512 (rowsOfParity 0 S1x1x512 raw bitcasts_S1x2x512_w16_S1x1x512_w32) shapeCasts_S1x1x512_S1x512
  have hi : FVec F S1x512 .bf16 :=
    shapeCast S1x512 (rowsOfParity 1 S1x1x512 raw bitcasts_S1x2x512_w16_S1x1x512_w32) shapeCasts_S1x1x512_S1x512
  interleaveRows S16x512
    (concatenate S8x512 0 [⟨S1x512, lo⟩, ⟨S1x512, lo⟩, ⟨S1x512, lo⟩, ⟨S1x512, lo⟩, ⟨S1x512, lo⟩, ⟨S1x512, lo⟩,
      ⟨S1x512, lo⟩, ⟨S1x512, lo⟩]
      concatenates_S1x512_S1x512_S1x512_S1x512_S1x512_S1x512_S1x512_S1x512_S8x512_d0)
    (concatenate S8x512 0 [⟨S1x512, hi⟩, ⟨S1x512, hi⟩, ⟨S1x512, hi⟩, ⟨S1x512, hi⟩, ⟨S1x512, hi⟩, ⟨S1x512, hi⟩,
      ⟨S1x512, hi⟩, ⟨S1x512, hi⟩]
      concatenates_S1x512_S1x512_S1x512_S1x512_S1x512_S1x512_S1x512_S1x512_S8x512_d0)
    bitcasts_S16x512_w16_S8x512_w32

/-- Sixteen rows of zeros. -/
def zeros : FVec F S16x512 .bf16 := broadcast S16x512 (Scalar.ofBits .bf16 0x0000#16)

/-- Whether the first kept value stands in row 0 of its quad. -/
def first0 (f : FVec F S16x512 .bf16) : IVec S16x512 1 :=
  cmpf .olt f (broadcast S16x512 (Scalar.ofBits .bf16 0x4080#16))

/-- Whether the second kept value stands in row 3 of its quad. -/
def last3 (e : FVec F S16x512 .bf16) : IVec S16x512 1 :=
  andi (cmpf .olt e (broadcast S16x512 (Scalar.ofBits .bf16 0x0000#16)))
    (cmpf .oge e (broadcast S16x512 (Scalar.ofBits .bf16 0xC080#16)))

/-- Whether rows 1 and 2 hold the second and the first kept value, in this order. -/
def swapped (e : FVec F S16x512 .bf16) : IVec S16x512 1 :=
  cmpf .ogt e (broadcast S16x512 (Scalar.ofBits .bf16 0xC020#16))

/-- Row 0 of sixteen quads. -/
def row0 (v0 f : FVec F S16x512 .bf16) : FVec F S16x512 .bf16 := select (first0 f) v0 zeros

/-- Row 1 of sixteen quads. -/
def row1 (v0 v1 e f : FVec F S16x512 .bf16) : FVec F S16x512 .bf16 :=
  select (swapped e) (select (last3 e) zeros v1) (select (first0 f) zeros v0)

/-- Row 2 of sixteen quads. -/
def row2 (v0 v1 e f : FVec F S16x512 .bf16) : FVec F S16x512 .bf16 :=
  select (swapped e) (select (first0 f) zeros v0) (select (last3 e) zeros v1)

/-- Row 3 of sixteen quads. -/
def row3 (v1 e : FVec F S16x512 .bf16) : FVec F S16x512 .bf16 := select (last3 e) v1 zeros

/-- Four times sixteen quads, sixteen at a time: the four slices of a vector of 64 rows. -/
def slice (j : Fin 4) (x : FVec F S64x512 .bf16) : FVec F S16x512 .bf16 :=
  match j with
  | 0 => extractStridedSlice S16x512 ![0, 0] x slices_S64x512_o0_0_S16x512
  | 1 => extractStridedSlice S16x512 ![16, 0] x slices_S64x512_o16_0_S16x512
  | 2 => extractStridedSlice S16x512 ![32, 0] x slices_S64x512_o32_0_S16x512
  | 3 => extractStridedSlice S16x512 ![48, 0] x slices_S64x512_o48_0_S16x512

/-- Sixteen codes taken to values: minus the zero point, times the scale. -/
def deq (j : Fin 4) (c : FVec F S64x512 .bf16) (z s : Vec F S1x2x512 .bf16) : FVec F S16x512 .bf16 :=
  mulf (subf (slice j c) (spread z)) (spread s)

/-- The sixteen blocks of sixteen rows of a decoded tile: per slice of quads its four rows. `z j`, `s j`: the zero
    point's and the scale's row for slice `j`. -/
def block (v : Vec F S64x512 .i8) (w : Vec F S32x512 .i8) (z s : Fin 4 → Vec F S1x2x512 .bf16) (j p : Fin 4) :
    FVec F S16x512 .bf16 :=
  match p with
  | 0 => row0 (deq j (loCodes v) (z j) (s j)) (slice j (shiftedField w))
  | 1 => row1 (deq j (loCodes v) (z j) (s j)) (deq j (hiCodes v) (z j) (s j)) (slice j (signedField w))
      (slice j (shiftedField w))
  | 2 => row2 (deq j (loCodes v) (z j) (s j)) (deq j (hiCodes v) (z j) (s j)) (slice j (signedField w))
      (slice j (shiftedField w))
  | 3 => row3 (deq j (hiCodes v) (z j) (s j)) (slice j (signedField w))

/-- A tile of 256 rows of the decoded weight. -/
def tile (v : Vec F S64x512 .i8) (w : Vec F S32x512 .i8) (z s : Fin 4 → Vec F S1x2x512 .bf16) :
    FVec F S256x512 .bf16 :=
  concatenate S256x512 0
    [⟨S16x512, block v w z s 0 0⟩, ⟨S16x512, block v w z s 0 1⟩, ⟨S16x512, block v w z s 0 2⟩, ⟨S16x512, block v w z s 0 3⟩,
     ⟨S16x512, block v w z s 1 0⟩, ⟨S16x512, block v w z s 1 1⟩, ⟨S16x512, block v w z s 1 2⟩, ⟨S16x512, block v w z s 1 3⟩,
     ⟨S16x512, block v w z s 2 0⟩, ⟨S16x512, block v w z s 2 1⟩, ⟨S16x512, block v w z s 2 2⟩, ⟨S16x512, block v w z s 2 3⟩,
     ⟨S16x512, block v w z s 3 0⟩, ⟨S16x512, block v w z s 3 1⟩, ⟨S16x512, block v w z s 3 2⟩, ⟨S16x512, block v w z s 3 3⟩]
    concatenates_S16x512_S16x512_S16x512_S16x512_S16x512_S16x512_S16x512_S16x512_S16x512_S16x512_S16x512_S16x512_S16x512_S16x512_S16x512_S16x512_S256x512_d0

/-! ## The twenty tiles -/

/-- The rows of tile `k` among the stored values. -/
theorem inb_vals (k : Fin 20) : ∀ a, (![64 * k.val, 0] : Fin 2 → Nat) a + S64x512.size a ≤ S1280x512.size a := by
  revert k; decide

/-- The rows of tile `k` among the stored positions. -/
theorem inb_idx (k : Fin 20) : ∀ a, (![32 * k.val, 0] : Fin 2 → Nat) a + S32x512.size a ≤ S640x512.size a := by
  revert k; decide

/-- Tile `k` of the permuted activations. -/
theorem inb_xp (k : Fin 20) : ∀ a, (![k.val, 0, 0] : Fin 3 → Nat) a + S1x48x256.size a ≤ S20x48x256.size a := by
  revert k; decide

/-- The row of group `2 * k + j / 2` in the scratch buffers: the even groups' rows come first. -/
theorem inb_pair (k : Fin 20) (j : Fin 4) :
    ∀ a, (![20 * (j.val / 2) + k.val, 0, 0] : Fin 3 → Nat) a + S1x2x512.size a ≤ S40x2x512.size a := by
  revert k j; decide

/-- What is read for the twenty tiles: per tile its stored values `vals`, its stored positions `idx`, per slice of
    quads the zero point's row `zero` and the scale's row `scale`, and its activations `act`. -/
structure Reads (F : FTy → Type) where
  vals : Fin 20 → Vec F S64x512 .i8
  idx : Fin 20 → Vec F S32x512 .i8
  zero : Fin 20 → Fin 4 → Vec F S1x2x512 .bf16
  scale : Fin 20 → Fin 4 → Vec F S1x2x512 .bf16
  act : Fin 20 → Vec F S1x48x256 .bf16

/-- Tile `k` of the decoded weight. -/
def tileAt (R : Reads F) (k : Fin 20) : FVec F S256x512 .bf16 := tile (R.vals k) (R.idx k) (R.zero k) (R.scale k)

/-- The product of tile `k` of the activations with tile `k` of the decoded weight. -/
def prod (R : Reads F) (k : Fin 20) : FVec F S48x512 .f32 :=
  matmul dot_S48x256_S256x512_S48x512_1_0_0_1_n_n none (shapeCast S48x256 (R.act k) shapeCasts_S1x48x256_S48x256)
    (tileAt R k) (constant S48x512 .f32 0x00000000#32)

/-- The sum of the first `n` products. -/
def acc (P : Fin 20 → FVec F S48x512 .f32) : (n : ℕ) → n ≤ 20 → FVec F S48x512 .f32
  | 0, _ => broadcast S48x512 (Scalar.ofBits .f32 0x00000000#32)
  | n + 1, h => addf (acc P n (Nat.le_of_succ_le h)) (P ⟨n, h⟩)

/-- The block of the result: the sum of the twenty products, rounded. -/
def body (R : Reads F) : FVec F S48x512 .bf16 :=
  truncf .bf16 (acc (prod R) 20 (Nat.le_refl 20)) bitsLt_bf16_f32

/-! ## The scratch buffers -/

/-- What a scratch buffer of pairs holds after its two stores: the even rows, then the odd rows, each twice. -/
def pairs (x : Vec F S40x512 .bf16) : Vec F S40x2x512 .bf16 :=
  View.canon (Val := Elt F) (e := .bf16)
   [⟨Rect.unit (s := S40x2x512) ![20, 0, 0] S20x2x512.size inb_S40x2x512_S20x2x512_20_0_0, k0_pay29 x⟩,
    ⟨Rect.unit (s := S40x2x512) ![0, 0, 0] S20x2x512.size inb_S40x2x512_S20x2x512_0_0_0, k0_pay28 x⟩]

/-- The row of group `2 * k + j / 2` of a scratch buffer of pairs. -/
def pairRow (y : Vec F S40x2x512 .bf16) (k : Fin 20) (j : Fin 4) : Vec F S1x2x512 .bf16 :=
  View.ld y (Rect.unit (s := S40x2x512) ![20 * (j.val / 2) + k.val, 0, 0] S1x2x512.size (inb_pair k j))

/-- What the body reads of its blocks: `xp` is the buffer of permuted activations. -/
def reads (x1 : Vec F S1280x512 .i8) (x2 : Vec F S640x512 .i8) (x3 x4 : Vec F S40x512 .bf16)
    (xp : Vec F S20x48x256 .bf16) : Reads F where
  vals k := View.ld x1 (Rect.unit (s := S1280x512) ![64 * k.val, 0] S64x512.size (inb_vals k))
  idx k := View.ld x2 (Rect.unit (s := S640x512) ![32 * k.val, 0] S32x512.size (inb_idx k))
  zero := pairRow (pairs x4)
  scale := pairRow (pairs x3)
  act k := View.ld xp (Rect.unit (s := S20x48x256) ![k.val, 0, 0] S1x48x256.size (inb_xp k))

/-- Reading all forty rows of a scale or zero point block is that block. -/
theorem ld_whole (x : Vec F S40x512 .bf16) :
    View.ld x (Rect.unit (s := S40x512) ![0, 0] S40x512.size inb_S40x512_S40x512_0_0) = x :=
  View.ld_unit_lit' _ x (by decide)

/-- A store of the whole block leaves its payload. -/
theorem canon_whole (w : Vec F S48x512 .bf16) :
    View.canon (Val := Elt F) (e := .bf16)
      [⟨Rect.unit (s := S48x512) ![0, 0] S48x512.size inb_S48x512_S48x512_0_0, w⟩] = w :=
  View.canon_cons_unit_lit' _ w [] (by decide)

/-- The two stores into a scratch buffer of pairs, as the body makes them from the block behind a memref. -/
def pairPieces (arg : Memref sig .tc .vmem S40x512 .bf16) (harg : arg.IsWhole) (x : Vec F S40x512 .bf16) :
    List (View.Piece (Elt F) S40x2x512 .bf16) :=
  have y : Vec F S40x512 .bf16 := View.readAt (Elt F) arg.view
    (Rect.unit (s := S40x512) ![0, 0] S40x512.size inb_S40x512_S40x512_0_0).toLoadRect (harg.unread x)
  [⟨Rect.unit (s := S40x2x512) ![20, 0, 0] S20x2x512.size inb_S40x2x512_S20x2x512_20_0_0, k0_pay29 y⟩,
   ⟨Rect.unit (s := S40x2x512) ![0, 0, 0] S20x2x512.size inb_S40x2x512_S20x2x512_0_0_0, k0_pay28 y⟩]

/-- Those two stores leave `pairs`. -/
theorem pairPieces_canon (arg : Memref sig .tc .vmem S40x512 .bf16) (harg : arg.IsWhole) (x : Vec F S40x512 .bf16) :
    View.canon (pairPieces arg harg x) = pairs x := by
  have e : View.readAt (Elt F) arg.view (Rect.unit (s := S40x512) ![0, 0] S40x512.size
      inb_S40x512_S40x512_0_0).toLoadRect (harg.unread x) = x := by
    rw [View.readAt_eq_ld, Memref.IsWhole.read_unread, ld_whole]
  unfold pairPieces pairs
  rw [e]

/-- A row read back from a scratch buffer of pairs. -/
theorem readCov_pairPieces (scr : Memref sig .tc .vmem S40x2x512 .bf16) (arg : Memref sig .tc .vmem S40x512 .bf16)
    (harg : arg.IsWhole) (x : Vec F S40x512 .bf16) (k : Fin 20) (j : Fin 4) :
    scr.view.readCov (pairPieces arg harg x)
      (Rect.unit (s := S40x2x512) ![20 * (j.val / 2) + k.val, 0, 0] S1x2x512.size (inb_pair k j)).toLoadRect =
    pairRow (pairs x) k j := by
  rw [View.readCov_eq_canon', pairPieces_canon]
  generalize pairs x = y
  rfl

/-- Reading a part of a block through the memref that holds it. -/
theorem readAt_unread {s : Shape} {e : EltTy} (arg : Memref sig .tc .vmem s e) (harg : arg.IsWhole) (x : Vec F s e)
    (r : Rect s) : View.readAt (Elt F) arg.view r.toLoadRect (harg.unread x) = View.ld x r := by
  rw [View.readAt_eq_ld, Memref.IsWhole.read_unread]

/-- The block the body leaves at a later grid step: `xs0` is the permuted activations the first step left. -/
theorem out0_B_5_eq (c : Dev nD) (i : grid0.Coords) (arg1 : Memref sig .tc .vmem S48x5120 .bf16) (harg1 : arg1.IsWhole)
    (arg2 : Memref sig .tc .vmem S1280x512 .i8) (harg2 : arg2.IsWhole)
    (arg3 : Memref sig .tc .vmem S640x512 .i8) (harg3 : arg3.IsWhole)
    (arg4 : Memref sig .tc .vmem S40x512 .bf16) (harg4 : arg4.IsWhole)
    (arg5 : Memref sig .tc .vmem S40x512 .bf16) (harg5 : arg5.IsWhole)
    (arg6 : Memref sig .tc .vmem S48x512 .bf16) (harg6 : arg6.IsWhole)
    (arg7 : Memref sig .tc .vmem S20x48x256 .bf16) (harg7 : arg7.IsWhole)
    (arg8 : Memref sig .tc .vmem S40x2x512 .bf16) (harg8 : arg8.IsWhole)
    (arg9 : Memref sig .tc .vmem S40x2x512 .bf16) (harg9 : arg9.IsWhole) (hc0 : ¬cond0_0 i)
    (x0 : Vec F S48x5120 .bf16) (x1 : Vec F S1280x512 .i8) (x2 : Vec F S640x512 .i8) (x3 x4 : Vec F S40x512 .bf16)
    (xs0 : Vec F S20x48x256 .bf16) :
    out0_B_5 c i arg1 harg1 arg2 harg2 arg3 harg3 arg4 harg4 arg5 harg5 arg6 harg6 arg7 harg7 arg8 harg8 arg9 harg9 hc0
      x0 x1 x2 x3 x4 xs0 =
    body (reads x1 x2 x3 x4 xs0) := by
  have e : reads x1 x2 x3 x4 xs0 =
    { vals := fun k => View.readAt (Elt F) arg2.view
        (Rect.unit (s := S1280x512) ![64 * k.val, 0] S64x512.size (inb_vals k)).toLoadRect (harg2.unread x1)
      idx := fun k => View.readAt (Elt F) arg3.view
        (Rect.unit (s := S640x512) ![32 * k.val, 0] S32x512.size (inb_idx k)).toLoadRect (harg3.unread x2)
      zero := fun k j => arg9.view.readCov (pairPieces arg5 harg5 x4)
        (Rect.unit (s := S40x2x512) ![20 * (j.val / 2) + k.val, 0, 0] S1x2x512.size (inb_pair k j)).toLoadRect
      scale := fun k j => arg8.view.readCov (pairPieces arg4 harg4 x3)
        (Rect.unit (s := S40x2x512) ![20 * (j.val / 2) + k.val, 0, 0] S1x2x512.size (inb_pair k j)).toLoadRect
      act := fun k => View.readAt (Elt F) arg7.view
        (Rect.unit (s := S20x48x256) ![k.val, 0, 0] S1x48x256.size (inb_xp k)).toLoadRect (harg7.unread xs0) } := by
    rw [reads, Reads.mk.injEq]
    exact ⟨funext fun k => (readAt_unread arg2 harg2 x1 _).symm, funext fun k => (readAt_unread arg3 harg3 x2 _).symm,
      funext fun k => funext fun j => (readCov_pairPieces arg9 arg5 harg5 x4 k j).symm,
      funext fun k => funext fun j => (readCov_pairPieces arg8 arg4 harg4 x3 k j).symm,
      funext fun k => (readAt_unread arg7 harg7 xs0 _).symm⟩
  rw [e]
  frame_open
  refine (View.read_writes_junk_eq_canon _ _).trans ((canon_whole _).trans ?_)
  sl_kernel_rfl

/-! ## The first grid step, which permutes the activations -/

/-- Tile `k` among the columns of the activations. -/
theorem inb_x (k : Fin 20) : ∀ a, (![0, 256 * k.val] : Fin 2 → Nat) a + S48x256.size a ≤ S48x5120.size a := by
  revert k; decide

/-- The columns of a tile of activations, permuted: its product with the permutation matrix. -/
def permuted (x : Vec F S48x256 .bf16) : Vec F S1x48x256 .bf16 := k0_pay4 x

/-- The first `n` stores into the buffer of permuted activations, the last one first. -/
def xpPieces (X : Fin 20 → Vec F S48x256 .bf16) : (n : ℕ) → n ≤ 20 → List (View.Piece (Elt F) S20x48x256 .bf16)
  | 0, _ => []
  | n + 1, h =>
    ⟨Rect.unit (s := S20x48x256) ![n, 0, 0] S1x48x256.size (inb_xp ⟨n, h⟩), permuted (X ⟨n, h⟩)⟩
      :: xpPieces X n (Nat.le_of_succ_le h)

/-- What the first grid step leaves in the buffer of permuted activations. -/
def xpAll (x0 : Vec F S48x5120 .bf16) : Vec F S20x48x256 .bf16 :=
  View.canon (xpPieces (fun k => View.ld x0 (Rect.unit (s := S48x5120) ![0, 256 * k.val] S48x256.size (inb_x k))) 20
    (Nat.le_refl 20))

/-- The twenty tiles of the activations as the first grid step reads them. -/
theorem x_tiles (arg1 : Memref sig .tc .vmem S48x5120 .bf16) (harg1 : arg1.IsWhole) (x0 : Vec F S48x5120 .bf16) :
    (fun k : Fin 20 => View.ld x0 (Rect.unit (s := S48x5120) ![0, 256 * k.val] S48x256.size (inb_x k))) =
    fun k : Fin 20 => View.readAt (Elt F) arg1.view
      (Rect.unit (s := S48x5120) ![0, 256 * k.val] S48x256.size (inb_x k)).toLoadRect (harg1.unread x0) :=
  funext fun k => (readAt_unread arg1 harg1 x0 _).symm

/-- The buffer of permuted activations after the first grid step. -/
theorem sout0_A_0_eq (c : Dev nD) (i : grid0.Coords) (arg1 : Memref sig .tc .vmem S48x5120 .bf16) (harg1 : arg1.IsWhole)
    (arg2 : Memref sig .tc .vmem S1280x512 .i8) (harg2 : arg2.IsWhole)
    (arg3 : Memref sig .tc .vmem S640x512 .i8) (harg3 : arg3.IsWhole)
    (arg4 : Memref sig .tc .vmem S40x512 .bf16) (harg4 : arg4.IsWhole)
    (arg5 : Memref sig .tc .vmem S40x512 .bf16) (harg5 : arg5.IsWhole)
    (arg6 : Memref sig .tc .vmem S48x512 .bf16) (harg6 : arg6.IsWhole)
    (arg7 : Memref sig .tc .vmem S20x48x256 .bf16) (harg7 : arg7.IsWhole)
    (arg8 : Memref sig .tc .vmem S40x2x512 .bf16) (harg8 : arg8.IsWhole)
    (arg9 : Memref sig .tc .vmem S40x2x512 .bf16) (harg9 : arg9.IsWhole) (hc0 : cond0_0 i)
    (x0 : Vec F S48x5120 .bf16) (x1 : Vec F S1280x512 .i8) (x2 : Vec F S640x512 .i8) (x3 x4 : Vec F S40x512 .bf16) :
    sout0_A_0 c i arg1 harg1 arg2 harg2 arg3 harg3 arg4 harg4 arg5 harg5 arg6 harg6 arg7 harg7 arg8 harg8 arg9 harg9 hc0
      x0 x1 x2 x3 x4 = xpAll x0 := by
  unfold xpAll
  rw [x_tiles arg1 harg1]
  frame_open
  refine (View.read_writes_junk_eq_canon _ _).trans ?_
  refine congrArg (View.canon (Val := Elt F) (s := S20x48x256) (e := .bf16)) ?_
  sl_kernel_rfl

/-- The block the body leaves at the first grid step. -/
theorem out0_A_5_eq (c : Dev nD) (i : grid0.Coords) (arg1 : Memref sig .tc .vmem S48x5120 .bf16) (harg1 : arg1.IsWhole)
    (arg2 : Memref sig .tc .vmem S1280x512 .i8) (harg2 : arg2.IsWhole)
    (arg3 : Memref sig .tc .vmem S640x512 .i8) (harg3 : arg3.IsWhole)
    (arg4 : Memref sig .tc .vmem S40x512 .bf16) (harg4 : arg4.IsWhole)
    (arg5 : Memref sig .tc .vmem S40x512 .bf16) (harg5 : arg5.IsWhole)
    (arg6 : Memref sig .tc .vmem S48x512 .bf16) (harg6 : arg6.IsWhole)
    (arg7 : Memref sig .tc .vmem S20x48x256 .bf16) (harg7 : arg7.IsWhole)
    (arg8 : Memref sig .tc .vmem S40x2x512 .bf16) (harg8 : arg8.IsWhole)
    (arg9 : Memref sig .tc .vmem S40x2x512 .bf16) (harg9 : arg9.IsWhole) (hc0 : cond0_0 i)
    (x0 : Vec F S48x5120 .bf16) (x1 : Vec F S1280x512 .i8) (x2 : Vec F S640x512 .i8) (x3 x4 : Vec F S40x512 .bf16) :
    out0_A_5 c i arg1 harg1 arg2 harg2 arg3 harg3 arg4 harg4 arg5 harg5 arg6 harg6 arg7 harg7 arg8 harg8 arg9 harg9 hc0
      x0 x1 x2 x3 x4 = body (reads x1 x2 x3 x4 (xpAll x0)) := by
  have e : reads x1 x2 x3 x4 (xpAll x0) =
    { vals := fun k => View.readAt (Elt F) arg2.view
        (Rect.unit (s := S1280x512) ![64 * k.val, 0] S64x512.size (inb_vals k)).toLoadRect (harg2.unread x1)
      idx := fun k => View.readAt (Elt F) arg3.view
        (Rect.unit (s := S640x512) ![32 * k.val, 0] S32x512.size (inb_idx k)).toLoadRect (harg3.unread x2)
      zero := fun k j => arg9.view.readCov (pairPieces arg5 harg5 x4)
        (Rect.unit (s := S40x2x512) ![20 * (j.val / 2) + k.val, 0, 0] S1x2x512.size (inb_pair k j)).toLoadRect
      scale := fun k j => arg8.view.readCov (pairPieces arg4 harg4 x3)
        (Rect.unit (s := S40x2x512) ![20 * (j.val / 2) + k.val, 0, 0] S1x2x512.size (inb_pair k j)).toLoadRect
      act := fun k => arg7.view.readCov (xpPieces (fun k : Fin 20 => View.readAt (Elt F) arg1.view
          (Rect.unit (s := S48x5120) ![0, 256 * k.val] S48x256.size (inb_x k)).toLoadRect (harg1.unread x0)) 20
          (Nat.le_refl 20))
        (Rect.unit (s := S20x48x256) ![k.val, 0, 0] S1x48x256.size (inb_xp k)).toLoadRect } := by
    rw [reads, Reads.mk.injEq]
    refine ⟨funext fun k => (readAt_unread arg2 harg2 x1 _).symm, funext fun k => (readAt_unread arg3 harg3 x2 _).symm,
      funext fun k => funext fun j => (readCov_pairPieces arg9 arg5 harg5 x4 k j).symm,
      funext fun k => funext fun j => (readCov_pairPieces arg8 arg4 harg4 x3 k j).symm,
      funext fun k => ?_⟩
    rw [View.readCov_eq_canon', xpAll, x_tiles arg1 harg1]
  rw [e]
  frame_open
  refine (View.read_writes_junk_eq_canon _ _).trans ((canon_whole _).trans ?_)
  sl_kernel_rfl

end Cert.KernelIdeal.Body
-- ==== Proof.Nibbles.lean ====
module

public import proofs.«01_k».proof.Proof.Body
public import Idealize.ShloMosaic.Lib.BitcastFour
public import Idealize.ShloMosaic.Lib.IdealHost
public import Idealize.ShloMosaic.Lib.Pointwise.IndexBridge

@[expose] public section

/-! The four-bit fields the body cuts out of the stored bytes, read one quad at a time. The body reads four rows of
    bytes as one row of words and masks and shifts the words; here each result is a field of one byte. -/

set_option maxRecDepth 16384

noncomputable section

namespace Cert.KernelIdeal.Body

open Idealize.ShloMosaic Idealize.ShloMosaic.TcCoe
open Cert.KernelIdeal Cert.KernelIdeal.Gen

variable {F : FTy → Type} [FloatOps F]

/-! ## Words and their bytes -/

/-- Words read as bytes: bit `q` of the byte in row `a` is bit `8 * (a % 4) + q` of the word in row `a / 4`. -/
theorem bytes_getLsbD {R r n : Nat} (x : (⟨2, ![r, n]⟩ : Shape).Idx → BitVec 32)
    (h : (⟨2, ![r, n]⟩ : Shape).Bitcasts 32 ⟨2, ![R, n]⟩ 8) (a : Fin R) (l : Fin n) (q : Nat) (hq : q < 8) (p : Fin r)
    (hp : p.val = a.val / 4) :
    (bitcast ⟨2, ![R, n]⟩ 8 x h (ix2 a l)).getLsbD q = (x (ix2 p l)).getLsbD (8 * (a.val % 4) + q) := by
  rw [bitcast_getLsbD x h _ q hq (by decide)]
  have hr : Shape.row (s := ⟨2, ![R, n]⟩) (ix2 a l) = a.val := rfl
  have e1 : (Shape.row (s := ⟨2, ![R, n]⟩) (ix2 a l) * 8 + q) / 32 = p.val := by rw [hr, hp]; omega
  have e2 : (Shape.row (s := ⟨2, ![R, n]⟩) (ix2 a l) * 8 + q) % 32 = 8 * (a.val % 4) + q := by rw [hr]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes read as words: bit `q` of the word in row `a` is bit `q % 8` of the byte in row `4 * a + q / 8`. -/
theorem words_getLsbD {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 32) (p : Fin R)
    (hp : p.val = 4 * a.val + q / 8) :
    (bitcast ⟨2, ![r, n]⟩ 32 x h (ix2 a l)).getLsbD q = (x (ix2 p l)).getLsbD (q % 8) := by
  simp only [ix2_eq_valueIdx]
  exact bitcast_8_32_getLsbD_ix2 x h a l q hq p hp

/-- The mask that keeps the low half of every byte of a word. -/
theorem mask_getLsbD (q : Nat) : (252645135#32).getLsbD q = decide (q < 32 ∧ q % 8 < 4) := by
  by_cases h : q < 32
  · interval_cases q <;> rfl
  · rw [BitVec.getLsbD_of_ge _ _ (by omega)]; simp [h]

/-! ## The codes -/

/-- The low code of a byte. -/
theorem loCodes_apply (v : Vec F S64x512 .i8) (r : Fin 64) (l : Fin 512) :
    loCodes v (ix2 r l) = FloatOps.sitofp .bf16 ((show BitVec 8 from v (ix2 r l)) &&& 15#8) := by
  unfold loCodes
  show FloatOps.sitofp .bf16 (bitcast S64x512 8 _ _ (ix2 r l)) = _
  congr 1
  apply BitVec.eq_of_getLsbD_eq
  intro q hq
  rw [bytes_getLsbD (R := 64) (r := 16) (n := 512) _ _ r l q hq ⟨r.val / 4, by omega⟩ rfl]
  show ((bitcast S16x512 32 v _ _ &&& 252645135#32 : BitVec 32)).getLsbD _ = _
  rw [BitVec.getLsbD_and, BitVec.getLsbD_and, mask_getLsbD,
    words_getLsbD (R := 64) (r := 16) (n := 512) _ _ _ l _ (by omega) r (by show r.val = 4 * (r.val / 4) + _; omega)]
  have e : (8 * (r.val % 4) + q) % 8 = q := by omega
  have e' : 8 * (r.val % 4) + q < 32 := by omega
  rw [e]
  congr 1
  simp only [e', true_and]
  interval_cases q <;> rfl

/-- The high code of a byte. -/
theorem hiCodes_apply (v : Vec F S64x512 .i8) (r : Fin 64) (l : Fin 512) :
    hiCodes v (ix2 r l) = FloatOps.sitofp .bf16 ((show BitVec 8 from v (ix2 r l)) >>> 4) := by
  unfold hiCodes
  show FloatOps.sitofp .bf16 (bitcast S64x512 8 _ _ (ix2 r l)) = _
  congr 1
  apply BitVec.eq_of_getLsbD_eq
  intro q hq
  rw [bytes_getLsbD (R := 64) (r := 16) (n := 512) _ _ r l q hq ⟨r.val / 4, by omega⟩ rfl]
  show ((bitcast S16x512 32 v _ _ >>> 4 &&& 252645135#32 : BitVec 32)).getLsbD _ = _
  rw [BitVec.getLsbD_and, mask_getLsbD, BitVec.getLsbD_ushiftRight, BitVec.getLsbD_ushiftRight]
  have e' : 8 * (r.val % 4) + q < 32 := by omega
  have e : (8 * (r.val % 4) + q) % 8 = q := by omega
  simp only [e', e, true_and]
  by_cases h : q < 4
  · rw [words_getLsbD (R := 64) (r := 16) (n := 512) _ _ _ l _ (by omega) r (by show r.val = 4 * (r.val / 4) + _; omega)]
    have e2 : (4 + (8 * (r.val % 4) + q)) % 8 = 4 + q := by omega
    simp [h, e2]
  · simp only [h, decide_false, Bool.and_false]
    exact (BitVec.getLsbD_of_ge _ _ (by omega)).symm

/-! ## The position fields -/

/-- The low halves of the bytes of words `w`, widened. -/
theorem lowFields_apply (w : IVec S8x512 32) (r : Fin 32) (l : Fin 512) :
    (extsi 32 (bitcast S32x512 8 (andi w (broadcast S8x512 252645135#32)) bitcasts_S8x512_w32_S32x512_w8) natLt_8_32
      : IVec S32x512 32) (ix2 r l) =
    ((w (ix2 ⟨r.val / 4, by omega⟩ l)).extractLsb' (8 * (r.val % 4)) 4).setWidth 32 := by
  show (bitcast S32x512 8 _ _ (ix2 r l)).signExtend 32 = _
  have e : bitcast S32x512 8 (andi w (broadcast S8x512 252645135#32)) bitcasts_S8x512_w32_S32x512_w8 (ix2 r l) =
      ((w (ix2 ⟨r.val / 4, by omega⟩ l)).extractLsb' (8 * (r.val % 4)) 4).setWidth 8 := by
    apply BitVec.eq_of_getLsbD_eq
    intro q hq
    rw [bytes_getLsbD (R := 32) (r := 8) (n := 512) _ _ r l q hq ⟨r.val / 4, by omega⟩ rfl]
    show ((w _ &&& 252645135#32 : BitVec 32)).getLsbD _ = _
    rw [BitVec.getLsbD_and, mask_getLsbD, BitVec.getLsbD_setWidth, BitVec.getLsbD_extractLsb']
    have e' : 8 * (r.val % 4) + q < 32 := by omega
    have e : (8 * (r.val % 4) + q) % 8 = q := by omega
    simp only [e', e, true_and, hq, decide_true, Bool.true_and]
    exact Bool.and_comm _ _
  rw [e]
  generalize (w (ix2 ⟨r.val / 4, by omega⟩ l)).extractLsb' (8 * (r.val % 4)) 4 = y
  revert y; decide

/-- The high halves of the bytes of words `w`, widened. -/
theorem highFields_apply (w : IVec S8x512 32) (r : Fin 32) (l : Fin 512) :
    (extsi 32 (bitcast S32x512 8 (andi (shrui w (broadcast S8x512 4#32)) (broadcast S8x512 252645135#32))
      bitcasts_S8x512_w32_S32x512_w8) natLt_8_32 : IVec S32x512 32) (ix2 r l) =
    ((w (ix2 ⟨r.val / 4, by omega⟩ l)).extractLsb' (8 * (r.val % 4) + 4) 4).setWidth 32 := by
  show (bitcast S32x512 8 _ _ (ix2 r l)).signExtend 32 = _
  have e : bitcast S32x512 8 (andi (shrui w (broadcast S8x512 4#32)) (broadcast S8x512 252645135#32))
      bitcasts_S8x512_w32_S32x512_w8 (ix2 r l) =
      ((w (ix2 ⟨r.val / 4, by omega⟩ l)).extractLsb' (8 * (r.val % 4) + 4) 4).setWidth 8 := by
    apply BitVec.eq_of_getLsbD_eq
    intro q hq
    rw [bytes_getLsbD (R := 32) (r := 8) (n := 512) _ _ r l q hq ⟨r.val / 4, by omega⟩ rfl]
    show ((w _ >>> 4 &&& 252645135#32 : BitVec 32)).getLsbD _ = _
    rw [BitVec.getLsbD_and, mask_getLsbD, BitVec.getLsbD_setWidth, BitVec.getLsbD_extractLsb', BitVec.getLsbD_ushiftRight]
    have e' : 8 * (r.val % 4) + q < 32 := by omega
    have e : (8 * (r.val % 4) + q) % 8 = q := by omega
    have e2 : 4 + (8 * (r.val % 4) + q) = 8 * (r.val % 4) + 4 + q := by omega
    simp only [e', e, e2, true_and, hq, decide_true, Bool.true_and]
    exact Bool.and_comm _ _
  rw [e]
  generalize (w (ix2 ⟨r.val / 4, by omega⟩ l)).extractLsb' (8 * (r.val % 4) + 4) 4 = y
  revert y; decide

/-- Row `r` of the fields of words `w` is the four bits of word `r / 8` from bit `4 * (r % 8)` on. -/
theorem nibbles_apply (w : IVec S8x512 32) (r : Fin 64) (l : Fin 512) :
    nibbles w (ix2 r l) = ((w (ix2 ⟨r.val / 8, by omega⟩ l)).extractLsb' (4 * (r.val % 8)) 4).setWidth 32 := by
  have lo := lowFields_apply w ⟨r.val / 2, by omega⟩ l
  have hi := highFields_apply w ⟨r.val / 2, by omega⟩ l
  unfold nibbles
  generalize (extsi 32 (bitcast S32x512 8 (andi w (broadcast S8x512 252645135#32)) bitcasts_S8x512_w32_S32x512_w8) natLt_8_32
      : IVec S32x512 32) = A at lo ⊢
  generalize (extsi 32 (bitcast S32x512 8 (andi (shrui w (broadcast S8x512 4#32)) (broadcast S8x512 252645135#32))
      bitcasts_S8x512_w32_S32x512_w8) natLt_8_32 : IVec S32x512 32) = B at hi ⊢
  pointwise
  have e : r.val / 2 / 4 = r.val / 8 := by omega
  simp only [e] at lo hi
  split
  · rw [lo]
    have e2 : 8 * (r.val / 2 % 4) = 4 * (r.val % 8) := by omega
    simp only [e2]
  · rw [hi]
    have e2 : 8 * (r.val / 2 % 4) + 4 = 4 * (r.val % 8) := by omega
    simp only [e2]

/-- The four bits of byte `r / 2` of `x` from bit `4 * (r % 2)` on, as a field of the word that holds the byte. -/
theorem field_of_word (x : IVec S32x512 8) (r : Fin 64) (l : Fin 512) :
    (bitcast S8x512 32 x bitcasts_S32x512_w8_S8x512_w32 (ix2 ⟨r.val / 8, by omega⟩ l)).extractLsb' (4 * (r.val % 8)) 4 =
    (x (ix2 ⟨r.val / 2, by omega⟩ l)).extractLsb' (4 * (r.val % 2)) 4 := by
  apply BitVec.eq_of_getLsbD_eq
  intro q hq
  rw [BitVec.getLsbD_extractLsb', BitVec.getLsbD_extractLsb',
    words_getLsbD (R := 32) (r := 8) (n := 512) _ _ _ l _ (by omega) ⟨r.val / 2, by omega⟩
      (by show r.val / 2 = 4 * (r.val / 8) + _; omega)]
  have e : (4 * (r.val % 8) + q) % 8 = 4 * (r.val % 2) + q := by omega
  rw [e]

/-- The same after the words are shifted up by two bits: the upper half of the field is the byte's two bits from bit
    `4 * (r % 2)` on. -/
theorem shifted_of_word (x : IVec S32x512 8) (r : Fin 64) (l : Fin 512) :
    ((shli (bitcast S8x512 32 x bitcasts_S32x512_w8_S8x512_w32) (broadcast S8x512 2#32) : IVec S8x512 32)
      (ix2 ⟨r.val / 8, by omega⟩ l)).extractLsb' (4 * (r.val % 8) + 2) 2 =
    (x (ix2 ⟨r.val / 2, by omega⟩ l)).extractLsb' (4 * (r.val % 2)) 2 := by
  show ((bitcast S8x512 32 x _ _ <<< 2 : BitVec 32)).extractLsb' _ _ = _
  apply BitVec.eq_of_getLsbD_eq
  intro q hq
  rw [BitVec.getLsbD_extractLsb', BitVec.getLsbD_extractLsb', BitVec.getLsbD_shiftLeft,
    words_getLsbD (R := 32) (r := 8) (n := 512) _ _ _ l _ (by omega) ⟨r.val / 2, by omega⟩
      (by show r.val / 2 = 4 * (r.val / 8) + _; omega)]
  have e : (4 * (r.val % 8) + 2 + q - 2) % 8 = 4 * (r.val % 2) + q := by omega
  have e1 : 4 * (r.val % 8) + 2 + q < 32 := by omega
  have e2 : ¬ 4 * (r.val % 8) + 2 + q < 2 := by omega
  rw [e]
  simp [e1, e2]

end Cert.KernelIdeal.Body
-- ==== Proof.Entry.lean ====
module

public import proofs.«01_k».proof.Proof.Nibbles

@[expose] public section

/-! One entry of the decoded weight over the extended reals: what the body's compares and selects leave in a row of a
    quad is the value the stored positions put there, whenever the first kept row comes before the second one. -/

set_option maxRecDepth 16384

noncomputable section

namespace Cert.KernelIdeal.Body

open Idealize.ShloMosaic Idealize.ShloMosaic.TcCoe
open Cert.KernelIdeal Cert.KernelIdeal.Gen

/-! ## What an entry is -/

/-- The row of its quad that keeps the first value: bits `4 * h` and `4 * h + 1` of the byte of positions. -/
def pos0 (b : BitVec 8) (h : ℕ) : BitVec 2 := b.extractLsb' (4 * h) 2

/-- The row of its quad that keeps the second value: bits `4 * h + 2` and `4 * h + 3`. -/
def pos1 (b : BitVec 8) (h : ℕ) : BitVec 2 := b.extractLsb' (4 * h + 2) 2

/-- A code taken to its value: minus the zero point, times the scale. -/
def value (c : BitVec 8) (z s : EReal) : EReal := (((c.toInt : ℝ) : EReal) - z) * s

/-- Row `p` of a quad: the value of the low code where the first position says so, the value of the high code where
    the second one does, and zero elsewhere. `v`: the byte of codes; `b`, `h`: the byte of positions and which half. -/
def entry (v b : BitVec 8) (h : ℕ) (p : Fin 4) (z s : EReal) : EReal :=
  if pos0 b h = BitVec.ofNat 2 p.val then value (v &&& 15#8) z s
  else if pos1 b h = BitVec.ofNat 2 p.val then value (v >>> 4) z s else 0

/-! ## The compares -/

theorem ofBits_four : Ideal.ofBits .bf16 0x4080#16 = (((4 : ℤ) : ℝ) : EReal) := by
  simp [Ideal.ofBits, Ideal.ieee, -EReal.coe_mul]; norm_num

theorem ofBits_neg_four : Ideal.ofBits .bf16 0xC080#16 = (((-4 : ℤ) : ℝ) : EReal) := by
  simp [Ideal.ofBits, Ideal.ieee, -EReal.coe_mul, -EReal.coe_neg]; norm_num

theorem ofBits_neg_five_halves : Ideal.ofBits .bf16 0xC020#16 = ((-(5 : ℝ) / 2 : ℝ) : EReal) := by
  simp [Ideal.ofBits, Ideal.ieee, -EReal.coe_mul, -EReal.coe_neg]; norm_num

/-- An integer is less than four. -/
theorem cmp_lt_four (n : ℤ) : Ideal.cmp .olt ((n : ℝ) : EReal) (Ideal.ofBits .bf16 0x4080#16) = BitVec.ofBool (decide (n < 4)) := by
  rw [ofBits_four]; simp only [Ideal.cmp, EReal.coe_lt_coe_iff, Int.cast_lt]

/-- An integer is negative. -/
theorem cmp_lt_zero (n : ℤ) : Ideal.cmp .olt ((n : ℝ) : EReal) (Ideal.ofBits .bf16 0x0000#16) = BitVec.ofBool (decide (n < 0)) := by
  rw [Ideal.ofBits_zero_bf16]; simp [Ideal.cmp]

/-- An integer is at least minus four. -/
theorem cmp_ge_neg_four (n : ℤ) : Ideal.cmp .oge ((n : ℝ) : EReal) (Ideal.ofBits .bf16 0xC080#16) = BitVec.ofBool (decide (-4 ≤ n)) := by
  rw [ofBits_neg_four]; simp only [Ideal.cmp, EReal.coe_le_coe_iff, Int.cast_le]

/-- An integer is greater than minus two and a half: it is at least minus two. -/
theorem cmp_gt_neg (n : ℤ) : Ideal.cmp .ogt ((n : ℝ) : EReal) (Ideal.ofBits .bf16 0xC020#16) = BitVec.ofBool (decide (-2 ≤ n)) := by
  rw [ofBits_neg_five_halves]
  have e : (-(5 : ℝ) / 2 < (n : ℝ)) ↔ -2 ≤ n := by
    constructor
    · intro h
      by_contra hn
      have h3 : n ≤ -3 := by omega
      have : (n : ℝ) ≤ ((-3 : ℤ) : ℝ) := Int.cast_le.mpr h3
      push_cast at this
      linarith
    · intro h
      have : ((-2 : ℤ) : ℝ) ≤ (n : ℝ) := Int.cast_le.mpr h
      push_cast at this
      linarith
  simp only [Ideal.cmp, EReal.coe_lt_coe_iff, e]

/-! ## The position fields at a quad -/

/-- The slices of sixteen rows. -/
theorem slice_apply {F : FTy → Type} [FloatOps F] (j : Fin 4) (x : FVec F S64x512 .bf16) (u : Fin 16) (l : Fin 512) :
    slice j x (ix2 u l) = x (ix2 ⟨16 * j.val + u.val, by omega⟩ l) := by
  fin_cases j <;> pointwise [slice] <;> congr 2 <;> ext <;> simp

/-- The signed field of quad `r`, from its byte of positions. -/
theorem signedField_apply (w : Vec Ideal S32x512 .i8) (r : Fin 64) (l : Fin 512) :
    signedField (F := Ideal) w (ix2 r l) =
      ((((((show BitVec 8 from w (ix2 ⟨r.val / 2, by omega⟩ l)).extractLsb' (4 * (r.val % 2)) 4).setWidth 32 ^^^ 8#32) - 8#32).toInt : ℝ) : EReal) := by
  have e := field_of_word w r l
  rw [← e]
  have h := nibbles_apply (bitcast S8x512 32 w bitcasts_S32x512_w8_S8x512_w32) r l
  rw [← h]
  rfl

/-- The shifted field of quad `r`: its upper two bits are the first position. -/
theorem shiftedField_apply (w : Vec Ideal S32x512 .i8) (r : Fin 64) (l : Fin 512) :
    ∃ y : BitVec 4, shiftedField (F := Ideal) w (ix2 r l) = (((y.setWidth 32).toInt : ℝ) : EReal) ∧
      y.extractLsb' 2 2 = pos0 (w (ix2 ⟨r.val / 2, by omega⟩ l)) (r.val % 2) := by
  refine ⟨_, congrArg (fun b : BitVec 32 => ((b.toInt : ℝ) : EReal)) (nibbles_apply _ r l), ?_⟩
  unfold pos0
  rw [← shifted_of_word]
  generalize (shli _ _ : IVec S8x512 32) _ = g
  apply BitVec.eq_of_getLsbD_eq
  intro q hq
  simp only [BitVec.getLsbD_extractLsb']
  have e : 2 + q < 4 := by omega
  simp [e, Nat.add_assoc]

/-! ## The rows of a quad -/

/-- The first position is row 0, as the body compares it. -/
theorem first0_apply (w : Vec Ideal S32x512 .i8) (j : Fin 4) (u : Fin 16) (l : Fin 512) :
    first0 (F := Ideal) (slice j (shiftedField w)) (ix2 u l) =
      BitVec.ofBool (decide (pos0 (w (ix2 ⟨(16 * j.val + u.val) / 2, by omega⟩ l)) ((16 * j.val + u.val) % 2) = 0#2)) := by
  obtain ⟨y, e, hy⟩ := shiftedField_apply w ⟨16 * j.val + u.val, by omega⟩ l
  show Ideal.cmp .olt (slice j (shiftedField w) (ix2 u l)) (Ideal.ofBits .bf16 0x4080#16) = _
  rw [slice_apply, e, cmp_lt_four]
  simp only at hy
  rw [← hy]
  clear e hy
  revert y; decide

/-- The second position is row 3, as the body compares it. -/
theorem last3_apply (w : Vec Ideal S32x512 .i8) (j : Fin 4) (u : Fin 16) (l : Fin 512) :
    last3 (F := Ideal) (slice j (signedField w)) (ix2 u l) =
      BitVec.ofBool (decide ((show BitVec 8 from w (ix2 ⟨(16 * j.val + u.val) / 2, by omega⟩ l)).extractLsb'
        (4 * ((16 * j.val + u.val) % 2)) 4 ≥ 12#4)) := by
  show IntOp.andi (Ideal.cmp .olt (slice j (signedField w) (ix2 u l)) (Ideal.ofBits .bf16 0x0000#16))
    (Ideal.cmp .oge (slice j (signedField w) (ix2 u l)) (Ideal.ofBits .bf16 0xC080#16)) = _
  rw [slice_apply, signedField_apply, cmp_lt_zero, cmp_ge_neg_four]
  generalize BitVec.extractLsb' _ 4 _ = y
  revert y; decide

/-- The second and the first value stand in rows 1 and 2, as the body compares it. -/
theorem swapped_apply (w : Vec Ideal S32x512 .i8) (j : Fin 4) (u : Fin 16) (l : Fin 512) :
    swapped (F := Ideal) (slice j (signedField w)) (ix2 u l) =
      BitVec.ofBool (decide ((show BitVec 8 from w (ix2 ⟨(16 * j.val + u.val) / 2, by omega⟩ l)).extractLsb'
        (4 * ((16 * j.val + u.val) % 2)) 4 ≥ 14#4 ∨ (show BitVec 8 from w (ix2 ⟨(16 * j.val + u.val) / 2, by omega⟩ l)).extractLsb'
        (4 * ((16 * j.val + u.val) % 2)) 4 < 8#4)) := by
  show Ideal.cmp .ogt (slice j (signedField w) (ix2 u l)) (Ideal.ofBits .bf16 0xC020#16) = _
  rw [slice_apply, signedField_apply, cmp_gt_neg]
  generalize BitVec.extractLsb' _ 4 _ = y
  revert y; decide

/-- The values of sixteen codes. -/
theorem deq_apply (j : Fin 4) (c : FVec Ideal S64x512 .bf16) (z s : Vec Ideal S1x2x512 .bf16) (u : Fin 16) (l : Fin 512) :
    deq j c z s (ix2 u l) = (c (ix2 ⟨16 * j.val + u.val, by omega⟩ l) - spread z (ix2 u l)) * spread s (ix2 u l) := by
  show (slice j c (ix2 u l) - spread z (ix2 u l)) * spread s (ix2 u l) = _
  rw [slice_apply]

/-- The first position, inside its four-bit field. -/
theorem pos0_eq (b : BitVec 8) (h : ℕ) : pos0 b h = (b.extractLsb' (4 * h) 4).extractLsb' 0 2 := by
  apply BitVec.eq_of_getLsbD_eq
  intro q hq
  have e : q < 4 := by omega
  simp [pos0, BitVec.getLsbD_extractLsb', e]

/-- The second position, inside its four-bit field. -/
theorem pos1_eq (b : BitVec 8) (h : ℕ) : pos1 b h = (b.extractLsb' (4 * h) 4).extractLsb' 2 2 := by
  apply BitVec.eq_of_getLsbD_eq
  intro q hq
  have e : 2 + q < 4 := by omega
  simp [pos1, BitVec.getLsbD_extractLsb', e, Nat.add_assoc]

/-- Row `p` of sixteen quads is the entry the stored bytes say, where the first kept row comes before the second. -/
theorem block_apply (v : Vec Ideal S64x512 .i8) (w : Vec Ideal S32x512 .i8) (z s : Fin 4 → Vec Ideal S1x2x512 .bf16)
    (j p : Fin 4) (u : Fin 16) (l : Fin 512)
    (hpre : (pos0 (w (ix2 ⟨(16 * j.val + u.val) / 2, by omega⟩ l)) ((16 * j.val + u.val) % 2)) <
      (pos1 (w (ix2 ⟨(16 * j.val + u.val) / 2, by omega⟩ l)) ((16 * j.val + u.val) % 2))) :
    block (F := Ideal) v w z s j p (ix2 u l) =
      entry (v (ix2 ⟨16 * j.val + u.val, by omega⟩ l)) (w (ix2 ⟨(16 * j.val + u.val) / 2, by omega⟩ l))
        ((16 * j.val + u.val) % 2) p (spread (z j) (ix2 u l)) (spread (s j) (ix2 u l)) := by
  have h0 := first0_apply w j u l
  have h3 := last3_apply w j u l
  have hs := swapped_apply w j u l
  have d0 : deq j (loCodes v) (z j) (s j) (ix2 u l) = value ((show BitVec 8 from v (ix2 ⟨16 * j.val + u.val, by omega⟩ l)) &&& 15#8)
      (spread (z j) (ix2 u l)) (spread (s j) (ix2 u l)) := by
    rw [deq_apply, loCodes_apply]; rfl
  have d1 : deq j (hiCodes v) (z j) (s j) (ix2 u l) = value ((show BitVec 8 from v (ix2 ⟨16 * j.val + u.val, by omega⟩ l)) >>> 4)
      (spread (z j) (ix2 u l)) (spread (s j) (ix2 u l)) := by
    rw [deq_apply, hiCodes_apply]; rfl
  have hz : (zeros : FVec Ideal S16x512 .bf16) (ix2 u l) = 0 := Ideal.ofBits_zero_bf16
  unfold entry
  generalize value (_ &&& 15#8) _ _ = A at d0 ⊢
  generalize value (_ >>> 4) _ _ = B at d1 ⊢
  rw [pos0_eq] at hpre h0
  rw [pos1_eq] at hpre
  rw [pos0_eq, pos1_eq]
  generalize BitVec.extractLsb' (4 * _) 4 _ = y at hpre h0 h3 hs ⊢
  have hy : y = 4#4 ∨ y = 8#4 ∨ y = 9#4 ∨ y = 12#4 ∨ y = 13#4 ∨ y = 14#4 := by
    clear h0 h3 hs; revert y; decide
  fin_cases p
  · show Scalar.select (first0 _ _) (deq j _ _ _ _) (zeros _) = _
    rw [h0, d0, hz]
    rcases hy with rfl | rfl | rfl | rfl | rfl | rfl <;> simp [Scalar.select]
  · show Scalar.select (swapped _ _) (Scalar.select (last3 _ _) (zeros _) (deq j _ _ _ _))
      (Scalar.select (first0 _ _) (zeros _) (deq j _ _ _ _)) = _
    rw [h0, h3, hs, d0, d1, hz]
    rcases hy with rfl | rfl | rfl | rfl | rfl | rfl <;> simp [Scalar.select]
  · show Scalar.select (swapped _ _) (Scalar.select (first0 _ _) (zeros _) (deq j _ _ _ _))
      (Scalar.select (last3 _ _) (zeros _) (deq j _ _ _ _)) = _
    rw [h0, h3, hs, d0, d1, hz]
    rcases hy with rfl | rfl | rfl | rfl | rfl | rfl <;> simp [Scalar.select]
  · show Scalar.select (last3 _ _) (deq j _ _ _ _) (zeros _) = _
    rw [h3, d1, hz]
    rcases hy with rfl | rfl | rfl | rfl | rfl | rfl <;> simp [Scalar.select]

end Cert.KernelIdeal.Body
-- ==== Proof.Tile.lean ====
module

public import proofs.«01_k».proof.Proof.Entry

@[expose] public section

/-! A decoded tile, the scratch buffers of scales and zero points and the permuted activations, read at an index. -/

set_option maxRecDepth 16384

noncomputable section

namespace Cert.KernelIdeal.Body

open Idealize.ShloMosaic Idealize.ShloMosaic.TcCoe
open Cert.KernelIdeal Cert.KernelIdeal.Gen

variable {F : FTy → Type} [FloatOps F]

/-- Blocks of sixteen rows put one below the other: row `16 * k + u` is row `u` of block `k`. -/
theorem stackAt {α : Type} (j : S256x512.Idx) : ∀ (xs : List (S16x512.Idx → α))
    (hs : ∀ s ∈ (xs.map fun x => (⟨S16x512, x⟩ : (s : Shape) × (s.Idx → α))).map (·.1), s.FitsOff S256x512 0) (c : ℕ)
    (hc : c < (axisSizes S256x512 0 (xs.map fun x => (⟨S16x512, x⟩ : (s : Shape) × (s.Idx → α)))).sum)
    (k : ℕ) (hk : k < xs.length) (u : Fin 16), c = 16 * k + u.val →
    concatenateAt S256x512 0 j (xs.map fun x => (⟨S16x512, x⟩ : (s : Shape) × (s.Idx → α))) hs c hc = xs[k] (ix2 u (j 1))
  | [], _, _, hc, _, _, _, _ => absurd hc (Nat.not_lt_zero _)
  | [x], hs, c, hc, k, hk, u, e => by
    have hk0 : k = 0 := by simpa using hk
    subst hk0
    refine (concatenateAt_singleton 0 j x hs c hc).trans ?_
    show x _ = x _
    refine congrArg x (funext fun b => Fin.ext ?_)
    match b with
    | ⟨0, _⟩ => show c = u.val; omega
    | ⟨1, _⟩ => rfl
  | x :: y :: xs, hs, c, hc, k, hk, u, e => by
    refine (concatenateAt_cons 0 j x _ _ hs c hc).trans ?_
    cases k with
    | zero =>
      have hlt : c < S16x512.size 0 := by show c < 16; omega
      refine (dif_pos hlt).trans ?_
      show x _ = x _
      refine congrArg x (funext fun b => Fin.ext ?_)
      match b with
      | ⟨0, _⟩ => show c = u.val; omega
      | ⟨1, _⟩ => rfl
    | succ k =>
      have hlt : ¬ c < S16x512.size 0 := by show ¬ c < 16; omega
      refine (dif_neg hlt).trans ?_
      exact stackAt j (y :: xs) _ _ _ k (by simpa using hk) u (by show c - 16 = _; omega)

/-- Row `64 * j + 16 * p + u` of a tile is row `u` of the block of slice `j` and row `p` of the quads. -/
theorem tile_apply (v : Vec F S64x512 .i8) (w : Vec F S32x512 .i8) (z s : Fin 4 → Vec F S1x2x512 .bf16)
    (j p : Fin 4) (u : Fin 16) (l : Fin 512) :
    tile v w z s (ix2 ⟨64 * j.val + 16 * p.val + u.val, by omega⟩ l) = block v w z s j p (ix2 u l) := by
  unfold tile
  generalize block v w z s = B
  rw [concatenate_apply]
  refine (stackAt _ [B 0 0, B 0 1, B 0 2, B 0 3, B 1 0, B 1 1, B 1 2, B 1 3, B 2 0, B 2 1, B 2 2, B 2 3, B 3 0, B 3 1,
    B 3 2, B 3 3] _ _ _ (4 * j.val + p.val) (by show _ < 16; omega) u (by show 64 * _ + _ + _ = _; omega)).trans ?_
  fin_cases j <;> fin_cases p <;> rfl

/-- A row of a pair of rows, repeated on sixteen rows. -/
theorem spread_apply (raw : Vec F S1x2x512 .bf16) (u : Fin 16) (l : Fin 512) :
    spread raw (ix2 u l) = raw (ix3 0 ⟨u.val % 2, by omega⟩ l) := by
  pointwise [spread]
  simp only [dite_eq_ite, ite_self]
  split
  · rename_i h
    exact congrArg (fun q => raw (ix3 0 q l)) (Fin.ext h.symm)
  · rename_i h
    exact congrArg (fun q => raw (ix3 0 q l)) (Fin.ext (by show 1 = u.val % 2; omega))

/-- The even rows, each twice. -/
theorem even_apply (x : Vec F S40x512 .bf16) (r : Fin 20) (q : Fin 2) (l : Fin 512) :
    k0_pay28 x (ix3 r q l) = x (ix2 ⟨2 * r.val, by omega⟩ l) := by
  pointwise [k0_pay28]
  exact ite_self _

/-- The odd rows, each twice. -/
theorem odd_apply (x : Vec F S40x512 .bf16) (r : Fin 20) (q : Fin 2) (l : Fin 512) :
    k0_pay29 x (ix3 r q l) = x (ix2 ⟨2 * r.val + 1, by omega⟩ l) := by
  pointwise [k0_pay29]
  exact ite_self _

/-- A scratch buffer of pairs: the even rows first, then the odd rows. -/
theorem pairs_apply (x : Vec F S40x512 .bf16) (r : Fin 40) (q : Fin 2) (l : Fin 512) :
    pairs x (ix3 r q l) = x (ix2 ⟨2 * (r.val % 20) + r.val / 20, by omega⟩ l) := by
  unfold pairs
  by_cases h : r.val < 20
  · rw [View.canon_cons_of_not_mem _ _ (Rect.not_mem_set_of_axis _ _ 0 20 20 rfl rfl rfl (Or.inl h))]
    have e : (Rect.unit (s := S40x2x512) ![0, 0, 0] S20x2x512.size inb_S40x2x512_S20x2x512_0_0_0).emb
        (ix3 ⟨r.val, h⟩ q l) = (ix3 r q l : S40x2x512.Idx) :=
      Rect.emb_eq_of_coords _ _ _ fun a => by
        match a with
        | ⟨0, _⟩ => show r.val = 0 + 1 * r.val; omega
        | ⟨1, _⟩ => show q.val = 0 + 1 * q.val; omega
        | ⟨2, _⟩ => show l.val = 0 + 1 * l.val; omega
    rw [← e]
    refine (View.canon_cons_emb _ _ _ _).trans ((even_apply x _ q l).trans ?_)
    exact congrArg (fun i => x (ix2 i l)) (Fin.ext (by show 2 * r.val = 2 * (r.val % 20) + r.val / 20; omega))
  · have e : (Rect.unit (s := S40x2x512) ![20, 0, 0] S20x2x512.size inb_S40x2x512_S20x2x512_20_0_0).emb
        (ix3 ⟨r.val - 20, by omega⟩ q l) = (ix3 r q l : S40x2x512.Idx) :=
      Rect.emb_eq_of_coords _ _ _ fun a => by
        match a with
        | ⟨0, _⟩ => show r.val = 20 + 1 * (r.val - 20); omega
        | ⟨1, _⟩ => show q.val = 0 + 1 * q.val; omega
        | ⟨2, _⟩ => show l.val = 0 + 1 * l.val; omega
    rw [← e]
    refine (View.canon_cons_emb _ _ _ _).trans ((odd_apply x _ q l).trans ?_)
    exact congrArg (fun i => x (ix2 i l)) (Fin.ext (by show 2 * (r.val - 20) + 1 = 2 * (r.val % 20) + r.val / 20; omega))

/-- The row of group `2 * k + j / 2`. -/
theorem pairRow_apply (x : Vec F S40x512 .bf16) (k : Fin 20) (j : Fin 4) (q : Fin 2) (l : Fin 512) :
    pairRow (pairs x) k j (ix3 0 q l) = x (ix2 ⟨2 * k.val + j.val / 2, by omega⟩ l) := by
  unfold pairRow
  pointwise
  rw [pairs_apply]
  exact congrArg (fun i => x (ix2 i l)) (Fin.ext (by
    show 2 * ((20 * (j.val / 2) + k.val) % 20) + (20 * (j.val / 2) + k.val) / 20 = 2 * k.val + j.val / 2; omega))

/-! ## The permuted activations -/

/-- The column a permuted column is taken from. -/
def want (d : Fin 256) : Fin 256 := ⟨64 * (d.val / 64) + 4 * (d.val % 16) + d.val / 16 % 4, by omega⟩

/-- The column as the body computes it on words. -/
theorem want_word : ∀ d : Fin 256,
    (BitVec.ofNat 32 d.val &&& 4294967232#32) ||| ((BitVec.ofNat 32 d.val &&& 15#32) <<< 2) |||
      ((BitVec.ofNat 32 d.val).sshiftRight 4 &&& 3#32) = BitVec.ofNat 32 (want d).val := by
  decide +kernel

/-- The permutation matrix: one where the row is the column's source, zero elsewhere. -/
theorem perm_apply (k d : Fin 256) : k0_pay3 (F := Ideal) (ix2 k d) = if k = want d then (1 : EReal) else 0 := by
  have hw : IntOp.ori (IntOp.ori (IntOp.andi (BitVec.ofNat 32 d.val) 4294967232#32)
      (IntOp.shli ArithUnit.vector (IntOp.andi (BitVec.ofNat 32 d.val) 15#32) 2#32))
      (IntOp.andi (IntOp.shrsi ArithUnit.vector (BitVec.ofNat 32 d.val) 4#32) 3#32) = BitVec.ofNat 32 (want d).val :=
    want_word d
  have hk : BitVec.ofNat 32 k.val = BitVec.ofNat 32 (want d).val ↔ k = want d := by
    constructor
    · intro h
      have h' := congrArg BitVec.toNat h
      rw [BitVec.toNat_ofNat, BitVec.toNat_ofNat, Nat.mod_eq_of_lt (by omega), Nat.mod_eq_of_lt (by omega)] at h'
      exact Fin.ext h'
    · rintro rfl; rfl
  pointwise [k0_pay3]
  rw [hw]
  by_cases h : k = want d
  · rw [if_pos h, h]
    simp [IntOp.cmpi, Scalar.select]
  · rw [if_neg h]
    have hb : (BitVec.ofNat 32 k.val == BitVec.ofNat 32 (want d).val) = false :=
      beq_eq_false_iff_ne.mpr fun e => h (hk.mp e)
    simp [IntOp.cmpi, Scalar.select, hb]

/-- A tile of activations, permuted: each column is taken from its source. -/
theorem permuted_apply (x : Vec Ideal S48x256 .bf16) (m : Fin 48) (d : Fin 256) :
    permuted x (ix3 0 m d) = x (ix2 m (want d)) := by
  pointwise [permuted, k0_pay4]
  simp only [perm_apply]
  simp

/-- The stores into the buffer of permuted activations leave in tile `k` the permuted tile `k`. -/
theorem xpPieces_mem (X : Fin 20 → Vec F S48x256 .bf16) : ∀ (n : ℕ) (h : n ≤ 20) (p : View.Piece (Elt F) S20x48x256 .bf16),
    p ∈ xpPieces X n h ↔ ∃ k : Fin 20, k.val < n ∧
      p = ⟨Rect.unit (s := S20x48x256) ![k.val, 0, 0] S1x48x256.size (inb_xp k), permuted (X k)⟩
  | 0, _, p => by simp [xpPieces]
  | n + 1, h, p => by
    rw [xpPieces, List.mem_cons, xpPieces_mem X n]
    constructor
    · rintro (e | ⟨k, hk, e⟩)
      · exact ⟨⟨n, h⟩, Nat.lt_succ_self n, e⟩
      · exact ⟨k, by omega, e⟩
    · rintro ⟨k, hk, e⟩
      by_cases hn : k.val = n
      · left; rw [e]; subst hn; rfl
      · right; exact ⟨k, by omega, e⟩

/-- The buffer of permuted activations: column `d` of tile `k` is column `256 * k + want d` of the activations. -/
theorem xpAll_apply (x0 : Vec Ideal S48x5120 .bf16) (k : Fin 20) (m : Fin 48) (d : Fin 256) :
    xpAll x0 (ix3 k m d) = x0 (ix2 m ⟨256 * k.val + (want d).val, by omega⟩) := by
  unfold xpAll
  refine View.canon_apply_of_pieces (fun i : S20x48x256.Idx =>
    x0 (ix2 (i 1) ⟨256 * (i 0).val + (want (i 2)).val, by have h0 : (i 0).val < 20 := (i 0).isLt; omega⟩)) _ ?_ (ix3 k m d) ?_
  · intro p hp x
    obtain ⟨k, -, rfl⟩ := (xpPieces_mem _ _ _ _).mp hp
    have h0 : (x 0).val < 1 := (x 0).isLt
    have hx : x = (ix3 (0 : Fin 1) (x 1) (x 2) : S1x48x256.Idx) := by
      refine (eq_ix3 x).trans (congrArg (fun q => (ix3 q (x 1) (x 2) : S1x48x256.Idx)) (Fin.ext ?_))
      show (x 0).val = 0
      omega
    refine (congrArg (permuted _) hx).trans ((permuted_apply _ _ _).trans ?_)
    have e1 : (Rect.unit (s := S20x48x256) ![k.val, 0, 0] S1x48x256.size (inb_xp k)).emb x 1 = (x 1 : Fin 48) :=
      Fin.ext (by show 0 + 1 * (x 1).val = (x 1).val; omega)
    have e2 : (Rect.unit (s := S20x48x256) ![k.val, 0, 0] S1x48x256.size (inb_xp k)).emb x 2 = (x 2 : Fin 256) :=
      Fin.ext (by show 0 + 1 * (x 2).val = (x 2).val; omega)
    have e0 : ((Rect.unit (s := S20x48x256) ![k.val, 0, 0] S1x48x256.size (inb_xp k)).emb x 0).val = k.val := by
      show k.val + 1 * (x 0).val = k.val; omega
    refine congrArg x0 (funext fun a => Fin.ext ?_)
    match a with
    | ⟨0, _⟩ =>
      show 0 + 1 * (x 1).val = ((Rect.unit (s := S20x48x256) ![k.val, 0, 0] S1x48x256.size (inb_xp k)).emb x 1).val
      rw [e1]; omega
    | ⟨1, _⟩ =>
      show 256 * k.val + 1 * (want (x 2)).val =
        256 * ((Rect.unit (s := S20x48x256) ![k.val, 0, 0] S1x48x256.size (inb_xp k)).emb x 0).val +
          (want ((Rect.unit (s := S20x48x256) ![k.val, 0, 0] S1x48x256.size (inb_xp k)).emb x 2)).val
      rw [e0, e2]; omega
  · refine ⟨_, (xpPieces_mem _ _ _ _).mpr ⟨k, k.isLt, rfl⟩, ?_⟩
    rw [show (ix3 k m d : S20x48x256.Idx) = (Rect.unit (s := S20x48x256) ![k.val, 0, 0] S1x48x256.size (inb_xp k)).emb
        (ix3 (0 : Fin 1) m d) from (Rect.emb_eq_of_coords _ _ _ fun a => by
          match a with
          | ⟨0, _⟩ => show k.val = k.val + 1 * 0; omega
          | ⟨1, _⟩ => show m.val = 0 + 1 * m.val; omega
          | ⟨2, _⟩ => show d.val = 0 + 1 * d.val; omega).symm]
    exact LoadRect.idx_mem _ _

end Cert.KernelIdeal.Body
-- ==== Proof.Sum.lean ====
module

public import proofs.«01_k».proof.Proof.Tile

@[expose] public section

/-! The block of the result over the extended reals: the twenty products of permuted activations with decoded tiles add
    up to one product over all 5120 rows of the weight, in their own order. -/

set_option maxRecDepth 16384

noncomputable section

namespace Cert.KernelIdeal.Body

open Idealize.ShloMosaic Idealize.ShloMosaic.TcCoe
open Cert.KernelIdeal Cert.KernelIdeal.Gen

/-- The first kept row comes before the second one in the two quads of every byte of a column block of positions. -/
def Ordered (x2 : Vec Ideal S640x512 .i8) : Prop :=
  ∀ (r : Fin 640) (l : Fin 512) (h : ℕ), h < 2 → pos0 (x2 (ix2 r l)) h < pos1 (x2 (ix2 r l)) h

/-- Row `i` of the weight in a column block: quad `i / 4`, row `i % 4` of it, group `i / 128`. -/
def weight (x1 : Vec Ideal S1280x512 .i8) (x2 : Vec Ideal S640x512 .i8) (x3 x4 : Vec Ideal S40x512 .bf16)
    (i : Fin 5120) (l : Fin 512) : EReal :=
  entry (x1 (ix2 ⟨i.val / 4, by omega⟩ l)) (x2 (ix2 ⟨i.val / 8, by omega⟩ l)) (i.val / 4 % 2) ⟨i.val % 4, by omega⟩
    (x4 (ix2 ⟨i.val / 128, by omega⟩ l)) (x3 (ix2 ⟨i.val / 128, by omega⟩ l))

/-- The row of the zero points or scales that slice `j` of tile `k` uses, repeated on sixteen rows. -/
theorem spread_pairRow (x : Vec Ideal S40x512 .bf16) (k : Fin 20) (j : Fin 4) (u : Fin 16) (l : Fin 512) :
    spread (pairRow (pairs (F := Ideal) x) k j) (ix2 u l) = x (ix2 ⟨2 * k.val + j.val / 2, by omega⟩ l) := by
  rw [spread_apply, pairRow_apply]

/-- The bytes of codes of tile `k`. -/
theorem reads_vals (x1 : Vec Ideal S1280x512 .i8) (x2 : Vec Ideal S640x512 .i8) (x3 x4 : Vec Ideal S40x512 .bf16)
    (xp : Vec Ideal S20x48x256 .bf16) (k : Fin 20) (r : Fin 64) (l : Fin 512) :
    (reads x1 x2 x3 x4 xp).vals k (ix2 r l) = x1 (ix2 ⟨64 * k.val + r.val, by omega⟩ l) := by
  unfold reads
  refine congrArg x1 (Rect.emb_eq_of_coords (Rect.unit (s := S1280x512) ![64 * k.val, 0] S64x512.size (inb_vals k))
    (ix2 r l) _ fun a => ?_)
  match a with
  | ⟨0, _⟩ => show 64 * k.val + r.val = 64 * k.val + 1 * r.val; omega
  | ⟨1, _⟩ => show l.val = 0 + 1 * l.val; omega

/-- The bytes of positions of tile `k`. -/
theorem reads_idx (x1 : Vec Ideal S1280x512 .i8) (x2 : Vec Ideal S640x512 .i8) (x3 x4 : Vec Ideal S40x512 .bf16)
    (xp : Vec Ideal S20x48x256 .bf16) (k : Fin 20) (r : Fin 32) (l : Fin 512) :
    (reads x1 x2 x3 x4 xp).idx k (ix2 r l) = x2 (ix2 ⟨32 * k.val + r.val, by omega⟩ l) := by
  unfold reads
  refine congrArg x2 (Rect.emb_eq_of_coords (Rect.unit (s := S640x512) ![32 * k.val, 0] S32x512.size (inb_idx k))
    (ix2 r l) _ fun a => ?_)
  match a with
  | ⟨0, _⟩ => show 32 * k.val + r.val = 32 * k.val + 1 * r.val; omega
  | ⟨1, _⟩ => show l.val = 0 + 1 * l.val; omega

/-- The activations of tile `k`. -/
theorem reads_act (x1 : Vec Ideal S1280x512 .i8) (x2 : Vec Ideal S640x512 .i8) (x3 x4 : Vec Ideal S40x512 .bf16)
    (xp : Vec Ideal S20x48x256 .bf16) (k : Fin 20) (m : Fin 48) (d : Fin 256) :
    (reads x1 x2 x3 x4 xp).act k (ix3 0 m d) = xp (ix3 k m d) := by
  unfold reads
  refine congrArg xp (Rect.emb_eq_of_coords (Rect.unit (s := S20x48x256) ![k.val, 0, 0] S1x48x256.size (inb_xp k))
    (ix3 0 m d) _ fun a => ?_)
  match a with
  | ⟨0, _⟩ => show k.val = k.val + 1 * 0; omega
  | ⟨1, _⟩ => show m.val = 0 + 1 * m.val; omega
  | ⟨2, _⟩ => show d.val = 0 + 1 * d.val; omega

/-- The zero points of tile `k`. -/
theorem reads_zero (x1 : Vec Ideal S1280x512 .i8) (x2 : Vec Ideal S640x512 .i8) (x3 x4 : Vec Ideal S40x512 .bf16)
    (xp : Vec Ideal S20x48x256 .bf16) (k : Fin 20) (j : Fin 4) :
    (reads x1 x2 x3 x4 xp).zero k j = pairRow (pairs x4) k j := by
  unfold reads
  with_reducible rfl

/-- The scales of tile `k`. -/
theorem reads_scale (x1 : Vec Ideal S1280x512 .i8) (x2 : Vec Ideal S640x512 .i8) (x3 x4 : Vec Ideal S40x512 .bf16)
    (xp : Vec Ideal S20x48x256 .bf16) (k : Fin 20) (j : Fin 4) :
    (reads x1 x2 x3 x4 xp).scale k j = pairRow (pairs x3) k j := by
  unfold reads
  with_reducible rfl

/-- Row `d` of tile `k` is row `256 * k + want d` of the weight. -/
theorem tileAt_apply (x1 : Vec Ideal S1280x512 .i8) (x2 : Vec Ideal S640x512 .i8) (x3 x4 : Vec Ideal S40x512 .bf16)
    (xp : Vec Ideal S20x48x256 .bf16) (hx : Ordered x2) (k : Fin 20) (d : Fin 256) (l : Fin 512) :
    tileAt (reads x1 x2 x3 x4 xp) k (ix2 d l) =
      weight x1 x2 x3 x4 ⟨256 * k.val + (want d).val, by omega⟩ l := by
  obtain ⟨j, p, u, rfl⟩ : ∃ (j p : Fin 4) (u : Fin 16), d = ⟨64 * j.val + 16 * p.val + u.val, by omega⟩ :=
    ⟨⟨d.val / 64, by omega⟩, ⟨d.val / 16 % 4, by omega⟩, ⟨d.val % 16, by omega⟩,
      Fin.ext (by show d.val = 64 * (d.val / 64) + 16 * (d.val / 16 % 4) + d.val % 16; omega)⟩
  have hw : (want ⟨64 * j.val + 16 * p.val + u.val, by omega⟩).val = 64 * j.val + 4 * u.val + p.val := by
    show 64 * ((64 * j.val + 16 * p.val + u.val) / 64) + 4 * ((64 * j.val + 16 * p.val + u.val) % 16) +
      (64 * j.val + 16 * p.val + u.val) / 16 % 4 = _
    omega
  have hz : spread ((reads x1 x2 x3 x4 xp).zero k j) (ix2 u l) = x4 (ix2 ⟨2 * k.val + j.val / 2, by omega⟩ l) := by
    rw [reads_zero, spread_pairRow]
  have hs : spread ((reads x1 x2 x3 x4 xp).scale k j) (ix2 u l) = x3 (ix2 ⟨2 * k.val + j.val / 2, by omega⟩ l) := by
    rw [reads_scale, spread_pairRow]
  have hv := reads_vals x1 x2 x3 x4 xp k ⟨16 * j.val + u.val, by omega⟩ l
  have hi := reads_idx x1 x2 x3 x4 xp k ⟨(16 * j.val + u.val) / 2, by omega⟩ l
  unfold tileAt
  generalize reads x1 x2 x3 x4 xp = R at hz hs hv hi ⊢
  have hpre : pos0 (R.idx k (ix2 ⟨(16 * j.val + u.val) / 2, by omega⟩ l)) ((16 * j.val + u.val) % 2) <
      pos1 (R.idx k (ix2 ⟨(16 * j.val + u.val) / 2, by omega⟩ l)) ((16 * j.val + u.val) % 2) := by
    rw [hi]
    exact hx _ _ _ (Nat.mod_lt _ (by omega))
  refine (tile_apply (R.vals k) (R.idx k) (R.zero k) (R.scale k) j p u l).trans
    ((block_apply (R.vals k) (R.idx k) (R.zero k) (R.scale k) j p u l hpre).trans ?_)
  rw [hv, hi, hz, hs]
  unfold weight
  simp only [hw]
  congr 1
  · exact congrArg (fun i => x1 (ix2 i l)) (Fin.ext (by
      show 64 * k.val + (16 * j.val + u.val) = (256 * k.val + (64 * j.val + 4 * u.val + p.val)) / 4; omega))
  · exact congrArg (fun i => x2 (ix2 i l)) (Fin.ext (by
      show 32 * k.val + (16 * j.val + u.val) / 2 = (256 * k.val + (64 * j.val + 4 * u.val + p.val)) / 8; omega))
  · omega
  · exact Fin.ext (by show p.val = (256 * k.val + (64 * j.val + 4 * u.val + p.val)) % 4; omega)
  · exact congrArg (fun i => x4 (ix2 i l)) (Fin.ext (by
      show 2 * k.val + j.val / 2 = (256 * k.val + (64 * j.val + 4 * u.val + p.val)) / 128; omega))
  · exact congrArg (fun i => x3 (ix2 i l)) (Fin.ext (by
      show 2 * k.val + j.val / 2 = (256 * k.val + (64 * j.val + 4 * u.val + p.val)) / 128; omega))

/-- Every column is the source of exactly one permuted column. -/
theorem want_bijective : Function.Bijective want := by
  refine Finite.injective_iff_bijective.mp fun a b h => Fin.ext ?_
  have h' : 64 * (a.val / 64) + 4 * (a.val % 16) + a.val / 16 % 4 = 64 * (b.val / 64) + 4 * (b.val % 16) + b.val / 16 % 4 :=
    congrArg Fin.val h
  omega

/-- The product of tile `k`, its columns back in their own order. -/
theorem prod_apply (x0 : Vec Ideal S48x5120 .bf16) (x1 : Vec Ideal S1280x512 .i8) (x2 : Vec Ideal S640x512 .i8)
    (x3 x4 : Vec Ideal S40x512 .bf16) (hx : Ordered x2) (k : Fin 20) (m : Fin 48) (l : Fin 512) :
    prod (reads x1 x2 x3 x4 (xpAll x0)) k (ix2 m l) =
      ∑ d : Fin 256, x0 (ix2 m ⟨256 * k.val + d.val, by omega⟩) * weight x1 x2 x3 x4 ⟨256 * k.val + d.val, by omega⟩ l := by
  have e : prod (reads x1 x2 x3 x4 (xpAll x0)) k (ix2 m l) =
      ∑ d : Fin 256, (reads x1 x2 x3 x4 (xpAll x0)).act k (ix3 0 m d) * tileAt (reads x1 x2 x3 x4 (xpAll x0)) k (ix2 d l) := by
    pointwise [prod]
  have ha : ∀ d : Fin 256, (reads x1 x2 x3 x4 (xpAll x0)).act k (ix3 0 m d) = x0 (ix2 m ⟨256 * k.val + (want d).val, by omega⟩) := by
    intro d
    rw [reads_act, xpAll_apply]
  rw [e]
  simp only [ha, tileAt_apply _ _ _ _ _ hx]
  exact want_bijective.sum_comp (fun d : Fin 256 =>
    x0 (ix2 m ⟨256 * k.val + d.val, by omega⟩) * weight x1 x2 x3 x4 ⟨256 * k.val + d.val, by omega⟩ l)

/-- The sum of the first `n` products at an index. -/
theorem acc_apply (P : Fin 20 → FVec Ideal S48x512 .f32) (i : S48x512.Idx) :
    ∀ (n : ℕ) (h : n ≤ 20), acc P n h i = ∑ k : Fin n, P ⟨k.val, by omega⟩ i
  | 0, _ => by
    show Ideal.ofBits .f32 0x00000000#32 = _
    simp
  | n + 1, h => by
    rw [Fin.sum_univ_castSucc]
    show acc P n _ i + P _ i = _
    rw [acc_apply P i n]
    rfl

/-- A sum over 5120 rows, tile by tile. -/
theorem sum_tiles (g : Fin 5120 → EReal) :
    ∑ i : Fin 5120, g i = ∑ k : Fin 20, ∑ d : Fin 256, g ⟨256 * k.val + d.val, by omega⟩ := by
  rw [← Fintype.sum_prod_type' (fun (k : Fin 20) (d : Fin 256) => g ⟨256 * k.val + d.val, by omega⟩)]
  refine (Fintype.sum_equiv (finProdFinEquiv (m := 20) (n := 256)) _ _ fun p => ?_).symm
  exact congrArg g (Fin.ext (by show 256 * p.1.val + p.2.val = p.2.val + 256 * p.1.val; omega))

/-- The block of the result is the activations times the weight. -/
theorem body_apply (x0 : Vec Ideal S48x5120 .bf16) (x1 : Vec Ideal S1280x512 .i8) (x2 : Vec Ideal S640x512 .i8)
    (x3 x4 : Vec Ideal S40x512 .bf16) (hx : Ordered x2) (m : Fin 48) (l : Fin 512) :
    body (reads x1 x2 x3 x4 (xpAll x0)) (ix2 m l) =
      ∑ i : Fin 5120, x0 (ix2 m i) * weight x1 x2 x3 x4 i l := by
  show acc (prod (reads x1 x2 x3 x4 (xpAll x0))) 20 _ (ix2 m l) = _
  rw [acc_apply, sum_tiles]
  exact Finset.sum_congr rfl fun k _ => prod_apply x0 x1 x2 x3 x4 hx k m l

end Cert.KernelIdeal.Body
-- ==== Proof.Grid.lean ====
module

public import proofs.«01_k».proof.Proof.Sum
public import proofs.«01_k».proof.Proof.Gen.KernelIdeal.Value
public import Idealize.ShloMosaic.Lib.Pipeline.ValueKit

@[expose] public section

/-! The result array of the kernel over the extended reals: every block of columns is the product of the activations
    with the decoded weight of the block, so every element is one sum over the rows of the weight. -/

set_option maxRecDepth 16384

noncomputable section

namespace Cert.KernelIdeal.Body

open Idealize.ShloMosaic Idealize.ShloMosaic.TcCoe
open Cert.KernelIdeal Cert.KernelIdeal.Gen

/-- Row `i` of column `n` of the whole weight: quad `i / 4`, row `i % 4` of it, group `i / 128`. -/
def fullWeight (a1 : Vec Ideal S1280x14336 .i8) (a2 : Vec Ideal S640x14336 .i8) (a3 a4 : Vec Ideal S40x14336 .bf16)
    (i : Fin 5120) (n : Fin 14336) : EReal :=
  entry (a1 (ix2 ⟨i.val / 4, by omega⟩ n)) (a2 (ix2 ⟨i.val / 8, by omega⟩ n)) (i.val / 4 % 2) ⟨i.val % 4, by omega⟩
    (a4 (ix2 ⟨i.val / 128, by omega⟩ n)) (a3 (ix2 ⟨i.val / 128, by omega⟩ n))

/-- The product of the activations with the decoded weight, element by element. -/
def result (a0 : Vec Ideal S48x1x5120 .bf16) (a1 : Vec Ideal S1280x14336 .i8) (a2 : Vec Ideal S640x14336 .i8)
    (a3 a4 : Vec Ideal S40x14336 .bf16) : Vec Ideal S48x14336 .bf16 := fun j =>
  ∑ i : Fin 5120, a0 (ix3 (j 0) 0 i) * fullWeight a1 a2 a3 a4 i (j 1)

/-- The first kept row comes before the second one in the two quads of every byte of positions. -/
def AllOrdered (a2 : Vec Ideal S640x14336 .i8) : Prop :=
  ∀ (r : Fin 640) (n : Fin 14336) (h : ℕ), h < 2 → pos0 (a2 (ix2 r n)) h < pos1 (a2 (ix2 r n)) h

variable (m : (ℓ : Loc nD τ sig) → Buf (Elt Ideal) ℓ)

/-- Every window's block index at every grid point. -/
theorem idx : ∀ t : Fin cfg0.N, win0_0.index t = ![0, 0] ∧ win0_1.index t = ![0, t.val] ∧ win0_2.index t = ![0, t.val] ∧
    win0_3.index t = ![0, t.val] ∧ win0_4.index t = ![0, t.val] :=
  (by decide +kernel : ∀ t : Fin grid0.N, _)

/-- There are 28 grid points. -/
theorem lt28 (t : Fin cfg0.N) : t.val < 28 := lt_of_lt_of_eq t.isLt (show cfg0.N = 28 from N_0)

/-- The block of activations is the same at every grid point: all of them. -/
theorem iblk0_apply (c : Dev nD) (t : Fin cfg0.N) (r : Fin 48) (i : Fin 5120) :
    (iblk m c 0 t : Vec Ideal S48x5120 .bf16) (ix2 r i) = m ((c : Thread nD τ).loc main_arg0) (ix3 r 0 i) := by
  blk_ext! [iblk, V, idx t]

/-- The block of bytes of codes at grid point `t`: columns `512 * t` and on. -/
theorem iblk1_apply (c : Dev nD) (t : Fin cfg0.N) (r : Fin 1280) (l : Fin 512) :
    (iblk m c 1 t : Vec Ideal S1280x512 .i8) (ix2 r l) =
      m ((c : Thread nD τ).loc main_arg1) (ix2 r ⟨512 * t.val + l.val, by have := lt28 t; omega⟩) := by
  blk_ext! [iblk, V, idx t]

/-- The block of bytes of positions at grid point `t`: columns `512 * t` and on. -/
theorem iblk2_apply (c : Dev nD) (t : Fin cfg0.N) (r : Fin 640) (l : Fin 512) :
    (iblk m c 2 t : Vec Ideal S640x512 .i8) (ix2 r l) =
      m ((c : Thread nD τ).loc main_arg2) (ix2 r ⟨512 * t.val + l.val, by have := lt28 t; omega⟩) := by
  blk_ext! [iblk, V, idx t]

/-- The block of scales at grid point `t`: columns `512 * t` and on. -/
theorem iblk3_apply (c : Dev nD) (t : Fin cfg0.N) (r : Fin 40) (l : Fin 512) :
    (iblk m c 3 t : Vec Ideal S40x512 .bf16) (ix2 r l) =
      m ((c : Thread nD τ).loc main_arg3) (ix2 r ⟨512 * t.val + l.val, by have := lt28 t; omega⟩) := by
  blk_ext! [iblk, V, idx t]

/-- The block of zero points at grid point `t`: columns `512 * t` and on. -/
theorem iblk4_apply (c : Dev nD) (t : Fin cfg0.N) (r : Fin 40) (l : Fin 512) :
    (iblk m c 4 t : Vec Ideal S40x512 .bf16) (ix2 r l) =
      m ((c : Thread nD τ).loc main_arg4) (ix2 r ⟨512 * t.val + l.val, by have := lt28 t; omega⟩) := by
  blk_ext! [iblk, V, idx t]

/-- The block of activations at any two grid points. -/
theorem iblk0_eq (c : Dev nD) (t t' : Fin cfg0.N) :
    (iblk m c 0 t : Vec Ideal S48x5120 .bf16) = iblk m c 0 t' := by
  refine funext fun (j : S48x5120.Idx) => ?_
  rw [eq_ix2 j]
  exact (iblk0_apply m c t _ _).trans (iblk0_apply m c t' _ _).symm

/-- After every grid point the scratch array holds the permuted activations. -/
theorem scratch_eq (c : Dev nD) : ∀ (n : ℕ) (hn : n < cfg0.N),
    (outsAt0 m c n hn).2 = xpAll (F := Ideal) (iblk m c 0 ⟨n, hn⟩)
  | 0, hn => by
    rw [outsAt0_A m c ⟨0, hn⟩ (Nat.zero_mod _)]
    dsimp only
    rw [sout0_A_0_eq]
  | n + 1, hn => by
    have h28 := lt28 ⟨n + 1, hn⟩
    have hB : ¬ (n + 1) % 28 = 0 := by dsimp only at h28; omega
    rw [outsAt0_B m c ⟨n + 1, hn⟩ hB]
    dsimp only
    unfold sout0_B_0
    exact (scratch_eq c n (Nat.lt_of_succ_lt hn)).trans (congrArg (xpAll (F := Ideal)) (iblk0_eq m c _ _))

/-- The block that every grid point leaves. -/
theorem out_eq (c : Dev nD) (t : Fin cfg0.N) :
    (outsAt0 m c t.val t.isLt).1 =
      body (F := Ideal) (reads (iblk m c 1 t) (iblk m c 2 t) (iblk m c 3 t) (iblk m c 4 t) (xpAll (iblk m c 0 t))) := by
  by_cases h0 : t.val % 28 = 0
  · rw [outsAt0_A m c t h0]
    dsimp only
    rw [out0_A_5_eq]
  · rw [outsAt0_B m c t h0]
    dsimp only
    rw [out0_B_5_eq, scratch_eq m c (t.val - 1), iblk0_eq m c _ t]

/-- The whole result array. -/
theorem G5_eq (c : Dev nD) (h2 : AllOrdered (m ((c : Thread nD τ).loc main_arg2))) :
    Value.G5 m c = result (m ((c : Thread nD τ).loc main_arg0)) (m ((c : Thread nD τ).loc main_arg1))
      (m ((c : Thread nD τ).loc main_arg2)) (m ((c : Thread nD τ).loc main_arg3)) (m ((c : Thread nD τ).loc main_arg4)) := by
  funext j
  obtain ⟨r, n, rfl⟩ : ∃ (r : Fin 48) (n : Fin 14336), j = ix2 r n := ⟨j 0, j 1, eq_ix2 j⟩
  have hp : Value.pt5Of (ix2 r n) = n.val / 512 := by
    show 28 * (r.val / 48 - 0) + 1 * (n.val / 512 - 0) = n.val / 512
    omega
  have hl : Value.loc5Of (ix2 r n) = ix2 r ⟨n.val % 512, Nat.mod_lt _ (by decide)⟩ := by
    funext a
    match a with
    | ⟨0, _⟩ => exact Fin.ext (show r.val % 48 = r.val by omega)
    | ⟨1, _⟩ => rfl
  have hlt : Value.pt5Of (ix2 r n) < cfg0.N := by rw [hp, show cfg0.N = 28 from N_0]; omega
  unfold Value.G5
  rw [dif_pos hlt, ← Value.outsAt0_sweep m c _ hlt, out_eq m c ⟨Value.pt5Of (ix2 r n), hlt⟩, hl, body_apply]
  · have hn : (⟨512 * Value.pt5Of (ix2 r n) + n.val % 512, by rw [hp]; omega⟩ : Fin 14336) = n :=
      Fin.ext (by show 512 * Value.pt5Of (ix2 r n) + n.val % 512 = n.val; rw [hp]; omega)
    refine @Finset.sum_congr (Fin 5120) EReal _ _ _ _ _ rfl fun i _ => ?_
    unfold weight fullWeight
    rw [iblk0_apply, iblk1_apply, iblk2_apply, iblk3_apply, iblk4_apply]
    dsimp only
    rw [hn]
    rfl
  · intro r' l h hh
    rw [iblk2_apply]
    exact h2 _ _ h hh

end Cert.KernelIdeal.Body

end
-- ==== Proof.Reference.lean ====
module

public import proofs.«01_k».proof.Proof.Grid
public import proofs.«01_k».proof.Proof.Gen.ReferenceIdeal.Run
public import Idealize.ShloMosaic.Lib.Pointwise

@[expose] public section

/-! The result of the reference over the extended reals: every element is the same sum over the rows of the weight. -/

set_option maxRecDepth 16384

noncomputable section

namespace Cert.ReferenceIdeal.Body

open Idealize.ShloMosaic Idealize.ShloMosaic.TcCoe
open Cert.ReferenceIdeal Cert.ReferenceIdeal.Gen
open Cert.KernelIdeal.Body (pos0 pos1 value entry fullWeight result)

/-! ## The reference's operations, named -/

/-- The bytes of codes as words, by group, byte of positions and half of it. -/
def vals (a1 : Vec Ideal S1280x14336 .i8) : IVec S40x16x2x14336 32 :=
  shapeCast _ (extui 32 a1 natLt_8_32) shapeCasts_S1280x14336_S40x16x2x14336

/-- The low codes. -/
def loCode (a1 : Vec Ideal S1280x14336 .i8) : IVec S40x16x2x14336 32 :=
  andi (vals a1) (broadcastInDim S40x16x2x14336 ![] bcast_S_S40x16x2x14336 (constantI S_ 32 15#32))

/-- The high codes. -/
def hiCode (a1 : Vec Ideal S1280x14336 .i8) : IVec S40x16x2x14336 32 :=
  andi (Host.shrsi (vals a1) (broadcastInDim S40x16x2x14336 ![] bcast_S_S40x16x2x14336 (constantI S_ 32 4#32)))
    (broadcastInDim S40x16x2x14336 ![] bcast_S_S40x16x2x14336 (constantI S_ 32 15#32))

/-- The two-bit field of every byte of positions that starts at bit `lit h` in half `h`. -/
def field (lit : Fin 2 → BitVec 32) (a2 : Vec Ideal S640x14336 .i8) : IVec S40x16x2x14336 32 :=
  andi (Host.shrsi (broadcastInDim S40x16x2x14336 ![0, 1, 2, 3] bcast_S40x16x1x14336_S40x16x2x14336_0_1_2_3
      (shapeCast _ (extui 32 a2 natLt_8_32) shapeCasts_S640x14336_S40x16x1x14336))
    (broadcastInDim S40x16x2x14336 ![0, 1, 2, 3] bcast_S1x1x2x1_S40x16x2x14336_0_1_2_3
      (broadcastInDim S1x1x2x1 ![2] bcast_S2_S1x1x2x1_2 (fun i => lit (S2.rowMajor i)))))
    (broadcastInDim S40x16x2x14336 ![] bcast_S_S40x16x2x14336 (constantI S_ 32 3#32))

/-- Codes taken to their values. -/
def values (u : IVec S40x16x2x14336 32) (a3 a4 : Vec Ideal S40x14336 .bf16) : FVec Ideal S40x16x2x14336 .bf16 :=
  mulf (subf (sitofp .bf16 u)
      (broadcastInDim S40x16x2x14336 ![0, 1, 2, 3] bcast_S40x1x1x14336_S40x16x2x14336_0_1_2_3
        (broadcastInDim S40x1x1x14336 ![0, 3] bcast_S40x14336_S40x1x1x14336_0_3 a4)))
    (broadcastInDim S40x16x2x14336 ![0, 1, 2, 3] bcast_S40x1x1x14336_S40x16x2x14336_0_1_2_3
      (broadcastInDim S40x1x1x14336 ![0, 3] bcast_S40x14336_S40x1x1x14336_0_3 a3))

/-- Where a field names the row of the quad. -/
def names (u : IVec S40x16x2x14336 32) : IVec S40x16x2x4x14336 1 :=
  cmpi .eq (broadcastInDim S40x16x2x4x14336 ![0, 1, 2, 3, 4] bcast_S40x16x2x1x14336_S40x16x2x4x14336_0_1_2_3_4
      (broadcastInDim S40x16x2x1x14336 ![0, 1, 2, 4] bcast_S40x16x2x14336_S40x16x2x1x14336_0_1_2_4 u))
    (broadcastInDim S40x16x2x4x14336 ![0, 1, 2, 3, 4] bcast_S1x1x1x4x1_S40x16x2x4x14336_0_1_2_3_4
      (broadcastInDim S1x1x1x4x1 ![3] bcast_S4_S1x1x1x4x1_3 (iotaInDim S4 32 0)))

/-- A value of every quad, repeated on its four rows. -/
def spreadRows (v : FVec Ideal S40x16x2x14336 .bf16) : FVec Ideal S40x16x2x4x14336 .bf16 :=
  broadcastInDim S40x16x2x4x14336 ![0, 1, 2, 3, 4] bcast_S40x16x2x1x14336_S40x16x2x4x14336_0_1_2_3_4
    (broadcastInDim S40x16x2x1x14336 ![0, 1, 2, 4] bcast_S40x16x2x14336_S40x16x2x1x14336_0_1_2_4 v)

/-- The decoded weight by group, byte of positions, half, row of the quad and column. -/
def quads (a1 : Vec Ideal S1280x14336 .i8) (a2 : Vec Ideal S640x14336 .i8) (a3 a4 : Vec Ideal S40x14336 .bf16) :
    FVec Ideal S40x16x2x4x14336 .bf16 :=
  select (names (field lit0 a2)) (spreadRows (values (loCode a1) a3 a4))
    (select (names (field lit1 a2)) (spreadRows (values (hiCode a1) a3 a4))
      (broadcastInDim S40x16x2x4x14336 ![] bcast_S_S40x16x2x4x14336 (constant S_ .bf16 0x0000#16)))

/-- The reference's result. -/
def val (a0 : Vec Ideal S48x1x5120 .bf16) (a1 : Vec Ideal S1280x14336 .i8) (a2 : Vec Ideal S640x14336 .i8)
    (a3 a4 : Vec Ideal S40x14336 .bf16) : Vec Ideal S48x14336 .bf16 :=
  truncf .bf16 (Host.dotGeneral dot_S48x5120_S5120x14336_S48x14336_1_0_0_1_n_n none
    (shapeCast (α := Ideal .bf16) _ a0 shapeCasts_S48x1x5120_S48x5120)
    (shapeCast (α := Ideal .bf16) _ (quads a1 a2 a3 a4) shapeCasts_S40x16x2x4x14336_S5120x14336)) bitsLt_bf16_f32

/-! ## Words -/

/-- The low code of a byte, as a word and as a byte. -/
theorem loCode_word (v : BitVec 8) : (v.setWidth 32 &&& 15#32).toInt = (v &&& 15#8).toInt := by
  revert v; decide

/-- The high code of a byte, as a word and as a byte. -/
theorem hiCode_word (v : BitVec 8) : ((v.setWidth 32).sshiftRight 4 &&& 15#32).toInt = (v >>> 4).toInt := by
  revert v; decide

/-- The first position of half `h` of a byte names row `p` as a word exactly when it does as two bits. -/
theorem pos0_word (b : BitVec 8) (h : Fin 2) (p : Fin 4) :
    (b.setWidth 32).sshiftRight (4 * h.val) &&& 3#32 = BitVec.ofNat 32 p.val ↔ pos0 b h.val = BitVec.ofNat 2 p.val := by
  unfold pos0; revert b h p; decide

/-- The same for the second position of a half. -/
theorem pos1_word (b : BitVec 8) (h : Fin 2) (p : Fin 4) :
    (b.setWidth 32).sshiftRight (4 * h.val + 2) &&& 3#32 = BitVec.ofNat 32 p.val ↔ pos1 b h.val = BitVec.ofNat 2 p.val := by
  unfold pos1; revert b h p; decide

/-! ## The operations at an index -/

/-- A byte of codes, as a word. -/
theorem vals_apply (a1 : Vec Ideal S1280x14336 .i8) (g : Fin 40) (b : Fin 16) (h : Fin 2) (n : Fin 14336) :
    vals a1 (ix4 g b h n) = BitVec.setWidth 32 (a1 (ix2 ⟨g.val * 32 + b.val * 2 + h.val, by omega⟩ n)) := by
  pointwise [vals]

/-- A low code. -/
theorem loCode_apply (a1 : Vec Ideal S1280x14336 .i8) (g : Fin 40) (b : Fin 16) (h : Fin 2) (n : Fin 14336) :
    (loCode a1 (ix4 g b h n)).toInt = (a1 (ix2 ⟨g.val * 32 + b.val * 2 + h.val, by omega⟩ n) &&& 15#8).toInt := by
  rw [← loCode_word, ← vals_apply]
  pointwise [loCode]
  rfl

/-- A high code. -/
theorem hiCode_apply (a1 : Vec Ideal S1280x14336 .i8) (g : Fin 40) (b : Fin 16) (h : Fin 2) (n : Fin 14336) :
    (hiCode a1 (ix4 g b h n)).toInt = (a1 (ix2 ⟨g.val * 32 + b.val * 2 + h.val, by omega⟩ n) >>> 4).toInt := by
  rw [← hiCode_word, ← vals_apply]
  pointwise [hiCode]
  rfl

/-- The first position of a quad, as a word. -/
theorem field0_apply (a2 : Vec Ideal S640x14336 .i8) (g : Fin 40) (b : Fin 16) (h : Fin 2) (n : Fin 14336) :
    field lit0 a2 (ix4 g b h n) =
      (BitVec.setWidth 32 (a2 (ix2 ⟨g.val * 16 + b.val, by omega⟩ n))).sshiftRight (4 * h.val) &&& 3#32 := by
  fin_cases h
  · pointwise [field]
    rfl
  · pointwise [field]
    rfl

/-- The second position of a quad, as a word. -/
theorem field1_apply (a2 : Vec Ideal S640x14336 .i8) (g : Fin 40) (b : Fin 16) (h : Fin 2) (n : Fin 14336) :
    field lit1 a2 (ix4 g b h n) =
      (BitVec.setWidth 32 (a2 (ix2 ⟨g.val * 16 + b.val, by omega⟩ n))).sshiftRight (4 * h.val + 2) &&& 3#32 := by
  fin_cases h
  · pointwise [field]
    rfl
  · pointwise [field]
    rfl

/-- A code taken to its value. -/
theorem values_apply (u : IVec S40x16x2x14336 32) (a3 a4 : Vec Ideal S40x14336 .bf16) (g : Fin 40) (b : Fin 16) (h : Fin 2)
    (n : Fin 14336) :
    values u a3 a4 (ix4 g b h n) = ((((u (ix4 g b h n)).toInt : ℝ) : EReal) - a4 (ix2 g n)) * a3 (ix2 g n) := by
  pointwise [values]
  rfl

/-- When a position names a row of the quad. -/
theorem names_apply (u : IVec S40x16x2x14336 32) (g : Fin 40) (b : Fin 16) (h : Fin 2) (p : Fin 4) (n : Fin 14336) :
    names u (ix5 g b h p n) = 1 ↔ u (ix4 g b h n) = BitVec.ofNat 32 p.val := by
  have e : names u (ix5 g b h p n) = BitVec.ofBool (u (ix4 g b h n) == BitVec.ofNat 32 p.val) := by
    pointwise [names]
    rfl
  rw [e]
  generalize u (ix4 g b h n) = w
  by_cases hw : w = BitVec.ofNat 32 p.val
  · simp [hw]
  · rw [beq_eq_false_iff_ne.mpr hw]
    exact ⟨fun h => absurd h (by decide), fun h => absurd h hw⟩

/-- The repeated value is the same on the four rows. -/
theorem spreadRows_apply (v : FVec Ideal S40x16x2x14336 .bf16) (g : Fin 40) (b : Fin 16) (h : Fin 2) (p : Fin 4)
    (n : Fin 14336) : spreadRows v (ix5 g b h p n) = v (ix4 g b h n) := by
  pointwise [spreadRows]

/-- Row `i` of the weight is row `i % 4` of quad `i / 4`. -/
theorem reshape_apply (W : FVec Ideal S40x16x2x4x14336 .bf16) (i : Fin 5120) (n : Fin 14336) :
    (shapeCast S5120x14336 W shapeCasts_S40x16x2x4x14336_S5120x14336) (ix2 i n) =
      W (ix5 ⟨i.val / 128, by omega⟩ ⟨i.val / 8 % 16, by omega⟩ ⟨i.val / 4 % 2, by omega⟩ ⟨i.val % 4, by omega⟩ n) := by
  pointwise

/-- One element of the decoded weight. -/
theorem quads_apply (a1 : Vec Ideal S1280x14336 .i8) (a2 : Vec Ideal S640x14336 .i8) (a3 a4 : Vec Ideal S40x14336 .bf16)
    (g : Fin 40) (b : Fin 16) (h : Fin 2) (p : Fin 4) (n : Fin 14336) :
    quads a1 a2 a3 a4 (ix5 g b h p n) =
      entry (a1 (ix2 ⟨g.val * 32 + b.val * 2 + h.val, by omega⟩ n)) (a2 (ix2 ⟨g.val * 16 + b.val, by omega⟩ n)) h.val p
        (a4 (ix2 g n)) (a3 (ix2 g n)) := by
  have e : quads a1 a2 a3 a4 (ix5 g b h p n) =
      if names (field lit0 a2) (ix5 g b h p n) = 1 then spreadRows (values (loCode a1) a3 a4) (ix5 g b h p n)
      else if names (field lit1 a2) (ix5 g b h p n) = 1 then spreadRows (values (hiCode a1) a3 a4) (ix5 g b h p n)
      else 0 := by
    unfold quads
    generalize names (field lit0 a2) = N0
    generalize names (field lit1 a2) = N1
    generalize spreadRows (values (loCode a1) a3 a4) = V0
    generalize spreadRows (values (hiCode a1) a3 a4) = V1
    pointwise
    rfl
  rw [e]
  simp only [names_apply, field0_apply, field1_apply, pos0_word, pos1_word, spreadRows_apply, values_apply, loCode_apply,
    hiCode_apply]
  rfl

/-- One element of the reference's result. -/
theorem val_apply (a0 : Vec Ideal S48x1x5120 .bf16) (a1 : Vec Ideal S1280x14336 .i8) (a2 : Vec Ideal S640x14336 .i8)
    (a3 a4 : Vec Ideal S40x14336 .bf16) (r : Fin 48) (n : Fin 14336) :
    val a0 a1 a2 a3 a4 (ix2 r n) = ∑ i : Fin 5120, a0 (ix3 r 0 i) *
      (shapeCast S5120x14336 (quads a1 a2 a3 a4) shapeCasts_S40x16x2x4x14336_S5120x14336) (ix2 i n) := by
  unfold val
  generalize shapeCast S5120x14336 (quads a1 a2 a3 a4) _ = W
  pointwise

/-- The reference's result is the sum over the rows of the weight. -/
theorem val_eq (a0 : Vec Ideal S48x1x5120 .bf16) (a1 : Vec Ideal S1280x14336 .i8) (a2 : Vec Ideal S640x14336 .i8)
    (a3 a4 : Vec Ideal S40x14336 .bf16) : val a0 a1 a2 a3 a4 = result a0 a1 a2 a3 a4 := by
  refine funext fun (j : S48x14336.Idx) => ?_
  obtain ⟨r, n, rfl⟩ : ∃ (r : Fin 48) (n : Fin 14336), j = ix2 r n := ⟨j 0, j 1, eq_ix2 j⟩
  rw [val_apply]
  refine @Finset.sum_congr (Fin 5120) EReal _ _ _ _ _ rfl fun i _ => ?_
  rw [reshape_apply, quads_apply]
  have h1 : (⟨i.val / 128 * 32 + i.val / 8 % 16 * 2 + i.val / 4 % 2, by omega⟩ : Fin 1280) = ⟨i.val / 4, by omega⟩ :=
    Fin.ext (by dsimp only; omega)
  have h2 : (⟨i.val / 128 * 16 + i.val / 8 % 16, by omega⟩ : Fin 640) = ⟨i.val / 8, by omega⟩ :=
    Fin.ext (by dsimp only; omega)
  dsimp only
  rw [h1, h2]
  rfl

open Idealize.SL.Sem in
/-- The reference runs and leaves that result; its arguments are kept. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51) =
        result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨?_, (h c).2⟩) (Value.run m ρ)
  rw [← val_eq]
  exact (h c).1

end Cert.ReferenceIdeal.Body

end
-- ==== Proof.InOrder.lean ====
module

public import proofs.«01_k».proof.Pre_kept_in_order
public import proofs.«01_k».proof.Proof.Grid
public import Idealize.ShloMosaic.Lib.Pointwise

@[expose] public section

/-! What the precondition says of the bytes of positions: in both quads of every byte the first kept row comes before
    the second one. -/

set_option maxRecDepth 16384

noncomputable section

namespace Cert.Pre_kept_in_order

open Idealize.ShloMosaic
open Cert.KernelIdeal.Body (pos0 pos1 AllOrdered)

/-- The side conditions that the predicate's operations state. -/
instance facts : Facts := ⟨by decide, by decide⟩

/-- The predicate's compare of the low half of a byte, at bits. -/
theorem low_word (b : BitVec 8) :
    BitVec.ofBool ((b.setWidth 32 &&& 3#32).slt ((b.setWidth 32).sshiftRight 2 &&& 3#32)) = 1#1 → pos0 b 0 < pos1 b 0 := by
  unfold pos0 pos1; revert b; decide

/-- The predicate's compare of the high half of a byte, at bits. -/
theorem high_word (b : BitVec 8) :
    BitVec.ofBool (((b.setWidth 32).sshiftRight 4 &&& 3#32).slt ((b.setWidth 32).sshiftRight 6 &&& 3#32)) = 1#1 →
      pos0 b 1 < pos1 b 1 := by
  unfold pos0 pos1; revert b; decide

/-- Where both compares hold everywhere, every byte keeps its rows in order. -/
theorem ordered (a0 : FVec Ideal S48x1x5120 .bf16) (a1 : IVec S1280x14336 8) (a2 : IVec S640x14336 8)
    (a3 a4 : FVec Ideal S40x14336 .bf16) (h1 : (fn a0 a1 a2 a3 a4).1 = fun _ => 1#1)
    (h2 : (fn a0 a1 a2 a3 a4).2 = fun _ => 1#1) : AllOrdered a2 := by
  intro r n h hh
  have e1 := congrFun h1 (ix2 r n)
  have e2 := congrFun h2 (ix2 r n)
  obtain rfl | rfl : h = 0 ∨ h = 1 := by omega
  · refine low_word _ (Eq.trans ?_ e1)
    pointwise [fn]
    rfl
  · refine high_word _ (Eq.trans ?_ e2)
    pointwise [fn]
    rfl

end Cert.Pre_kept_in_order

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Grid
public import proofs.«01_k».proof.Proof.Reference
public import proofs.«01_k».proof.Proof.InOrder
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The kernel runs, leaves its arguments as they were and every semaphore counter at zero. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same of the idealized reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each rewrite that made the idealized kernel is an instance of its rule. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- The idealized kernel's frame, where the positions are in order. -/
theorem frame_pi_pre : Cert.quiescent_KernelIdeal_pre_kept_in_order := fun m ρ _ => Cert.KernelIdeal.Gen.frame m ρ

/-- The idealized reference's frame, where the positions are in order. -/
theorem frame_ri_pre : Cert.quiescent_ReferenceIdeal_pre_kept_in_order := fun m ρ _ => frame_ri m ρ trivial

/-- Where the positions of the kept rows are in order, the idealized kernel and the idealized reference leave the same
    result: both are the sum over the rows of the decoded weight (`Cert.KernelIdeal.Body.result`). -/
theorem algebraic : Cert.algebraic_KernelIdeal_ReferenceIdeal_pre_kept_in_order := by
  intro m g m' g' hpre hargs
  refine ⟨fun c => Cert.KernelIdeal.Value.G5 m c, Cert.KernelIdeal.Value.run m g, ?_⟩
  refine (θ_run Cert.ReferenceIdeal.defs _ _).mono (fun r h c => ⟨?_, (h c).2⟩) (Cert.ReferenceIdeal.Body.run m' g')
  obtain ⟨e0, e1, e2, e3, e4⟩ := hargs c
  have h2 := Cert.Pre_kept_in_order.ordered _ _ _ _ _ (hpre c).1 (hpre c).2
  refine (h c).1.trans ?_
  rw [e0, e1, e2, e3, e4]
  exact (Cert.KernelIdeal.Body.G5_eq m c h2).symm

/-- Everything that the certificate claims. -/
theorem claim : Cert.Claim :=
  ⟨Cert.Kernel.Gen.facts, Cert.KernelIdeal.Gen.facts, Cert.ReferenceIdeal.Gen.facts, Cert.Pre_kept_in_order.facts,
    frame_p, frame_pi, frame_pi_pre, frame_ri, frame_ri_pre, preserves, algebraic⟩

end Cert.Proof

end
